-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x128 : Shape := ⟨2, ![16384, 128]⟩
abbrev S65536x128 : Shape := ⟨2, ![65536, 128]⟩
abbrev S2048x128 : Shape := ⟨2, ![2048, 128]⟩
abbrev S3x2048x128 : Shape := ⟨3, ![3, 2048, 128]⟩
abbrev S3x2048x384 : Shape := ⟨3, ![3, 2048, 384]⟩
abbrev S3 : Shape := ⟨1, ![3]⟩
abbrev S1 : Shape := ⟨1, ![1]⟩
abbrev S_ : Shape := ⟨0, ![]⟩
abbrev S16384x4x128 : Shape := ⟨3, ![16384, 4, 128]⟩
abbrev S2048x1x128 : Shape := ⟨3, ![2048, 1, 128]⟩
abbrev S1x2048x128 : Shape := ⟨3, ![1, 2048, 128]⟩

abbrev nBuf : Space → Nat
  | .hbm => 3
  | .vmem => 4
  | .smem => 0
  | _ => 0

abbrev bufTy : (tb : Table) → Fin (tcTables nBuf tb) → BufTy
  | .hbm, ⟨0, _⟩ => ⟨S16384x128, .f32⟩
  | .hbm, ⟨1, _⟩ => ⟨S65536x128, .f32⟩
  | .hbm, ⟨2, _⟩ => ⟨S65536x128, .f32⟩
  | .local _ .vmem, ⟨0, _⟩ => ⟨S2048x128, .f32⟩
  | .local _ .vmem, ⟨1, _⟩ => ⟨S2048x128, .f32⟩
  | .local _ .vmem, ⟨2, _⟩ => ⟨S3x2048x128, .f32⟩
  | .local _ .vmem, ⟨3, _⟩ => ⟨S3x2048x384, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c3_i32_0 : BitVec 32 := 3#32
  let v1 : BitVec 1 := Scalar.cmpi .sge arg0 c3_i32_0
  let v2 : BitVec 32 := Scalar.extui v1
  let c0_i32 : BitVec 32 := 0#32
  let v3 : BitVec 1 := Scalar.cmpi .ne v2 c0_i32
  v3

def k0_off1 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off2 (i : grid0.Coords) : Fin 3 → Nat :=
  let arg0 : BitVec 32 := BitVec.ofNat 32 (i 0).val
  let c3_i32_199 : BitVec 32 := 3#32
  let v611 : BitVec 32 := Scalar.subi arg0 c3_i32_199
  let c2048_i32_200 : BitVec 32 := 2048#32
  let v612 : BitVec 32 := Scalar.muli v611 c2048_i32_200
  let c0_i32_201 : BitVec 32 := 0#32
  let c0_i32_202 : BitVec 32 := 0#32
  ![v612.toNat, 0, 0]
def k0_off3 (i : grid0.Coords) : Fin 3 → Nat :=
  let arg0 : BitVec 32 := BitVec.ofNat 32 (i 0).val
  let c3_i32 : BitVec 32 := 3#32
  let v0 : BitVec 32 := Scalar.remsi arg0 c3_i32
  let c0_i32_203 : BitVec 32 := 0#32
  let c0_i32_204 : BitVec 32 := 0#32
  ![v0.toNat, 0, 0]
def k0_off4 (i : grid0.Coords) : Fin 3 → Nat :=
  let arg0 : BitVec 32 := BitVec.ofNat 32 (i 0).val
  let c3_i32_199 : BitVec 32 := 3#32
  let v611 : BitVec 32 := Scalar.subi arg0 c3_i32_199
  let c2048_i32_200 : BitVec 32 := 2048#32
  let v612 : BitVec 32 := Scalar.muli v611 c2048_i32_200
  let c1_i32_205 : BitVec 32 := 1#32
  let c0_i32_206 : BitVec 32 := 0#32
  ![v612.toNat, 1, 0]
def k0_off5 (i : grid0.Coords) : Fin 3 → Nat :=
  let arg0 : BitVec 32 := BitVec.ofNat 32 (i 0).val
  let c3_i32_199 : BitVec 32 := 3#32
  let v611 : BitVec 32 := Scalar.subi arg0 c3_i32_199
  let c2048_i32_200 : BitVec 32 := 2048#32
  let v612 : BitVec 32 := Scalar.muli v611 c2048_i32_200
  let c2_i32_209 : BitVec 32 := 2#32
  let c0_i32_210 : BitVec 32 := 0#32
  ![v612.toNat, 2, 0]
def k0_off6 (i : grid0.Coords) : Fin 3 → Nat :=
  let arg0 : BitVec 32 := BitVec.ofNat 32 (i 0).val
  let c3_i32_199 : BitVec 32 := 3#32
  let v611 : BitVec 32 := Scalar.subi arg0 c3_i32_199
  let c2048_i32_200 : BitVec 32 := 2048#32
  let v612 : BitVec 32 := Scalar.muli v611 c2048_i32_200
  let c3_i32_213 : BitVec 32 := 3#32
  let c0_i32_214 : BitVec 32 := 0#32
  ![v612.toNat, 3, 0]
def k0_off7 (i : grid0.Coords) : Fin 3 → Nat :=
  let arg0 : BitVec 32 := BitVec.ofNat 32 (i 0).val
  let c3_i32 : BitVec 32 := 3#32
  let v0 : BitVec 32 := Scalar.remsi arg0 c3_i32
  let c0_i32_223 : BitVec 32 := 0#32
  let c0_i32_224 : BitVec 32 := 0#32
  ![v0.toNat, 0, 0]
def k0_off8 (i : grid0.Coords) : Fin 3 → Nat :=
  let arg0 : BitVec 32 := BitVec.ofNat 32 (i 0).val
  let c3_i32 : BitVec 32 := 3#32
  let v0 : BitVec 32 := Scalar.remsi arg0 c3_i32
  let c0_i32_227 : BitVec 32 := 0#32
  let c128_i32_228 : BitVec 32 := 128#32
  ![v0.toNat, 0, 128]
def k0_off9 (i : grid0.Coords) : Fin 3 → Nat :=
  let arg0 : BitVec 32 := BitVec.ofNat 32 (i 0).val
  let c3_i32 : BitVec 32 := 3#32
  let v0 : BitVec 32 := Scalar.remsi arg0 c3_i32
  let c0_i32_231 : BitVec 32 := 0#32
  let c256_i32_232 : BitVec 32 := 256#32
  ![v0.toNat, 0, 256]
def k0_off10 (i : grid0.Coords) : Fin 3 → Nat :=
  let arg0 : BitVec 32 := BitVec.ofNat 32 (i 0).val
  let c3_i32 : BitVec 32 := 3#32
  let v0 : BitVec 32 := Scalar.remsi arg0 c3_i32
  let v13 : Index := Scalar.indexCast v0
  let c0_2 : Index := 0#32
  let c0_3 : Index := 0#32
  ![v13.toNat, 0, 0]
def k0_off11 (i : grid0.Coords) : Fin 3 → Nat :=
  let arg0 : BitVec 32 := BitVec.ofNat 32 (i 0).val
  let c3_i32 : BitVec 32 := 3#32
  let v0 : BitVec 32 := Scalar.remsi arg0 c3_i32
  let v191 : Index := Scalar.indexCast v0
  let c0_44 : Index := 0#32
  let c0_45 : Index := 0#32
  ![v191.toNat, 0, 0]
def k0_off12 (i : grid0.Coords) : Fin 3 → Nat :=
  let arg0 : BitVec 32 := BitVec.ofNat 32 (i 0).val
  let c3_i32 : BitVec 32 := 3#32
  let v0 : BitVec 32 := Scalar.remsi arg0 c3_i32
  let v369 : Index := Scalar.indexCast v0
  let c0_105 : Index := 0#32
  let c128 : Index := 128#32
  ![v369.toNat, 0, 128]
def k0_off13 (i : grid0.Coords) : Fin 3 → Nat :=
  let arg0 : BitVec 32 := BitVec.ofNat 32 (i 0).val
  let c3_i32 : BitVec 32 := 3#32
  let v0 : BitVec 32 := Scalar.remsi arg0 c3_i32
  let v547 : Index := Scalar.indexCast v0
  let c0_165 : Index := 0#32
  let c256 : Index := 256#32
  ![v547.toNat, 0, 256]
def k0_off14 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off15 (i : grid0.Coords) : Fin 3 → Nat :=
  let arg0 : BitVec 32 := BitVec.ofNat 32 (i 0).val
  let c2048_i32 : BitVec 32 := 2048#32
  let v551 : BitVec 32 := Scalar.muli arg0 c2048_i32
  let c0_i32_166 : BitVec 32 := 0#32
  let c0_i32_167 : BitVec 32 := 0#32
  ![v551.toNat, 0, 0]
def k0_off16 (i : grid0.Coords) : Fin 3 → Nat :=
  let arg0 : BitVec 32 := BitVec.ofNat 32 (i 0).val
  let c3_i32 : BitVec 32 := 3#32
  let v0 : BitVec 32 := Scalar.remsi arg0 c3_i32
  let c0_i32_168 : BitVec 32 := 0#32
  let c0_i32_169 : BitVec 32 := 0#32
  ![v0.toNat, 0, 0]
def k0_off17 (i : grid0.Coords) : Fin 3 → Nat :=
  let arg0 : BitVec 32 := BitVec.ofNat 32 (i 0).val
  let c2048_i32 : BitVec 32 := 2048#32
  let v551 : BitVec 32 := Scalar.muli arg0 c2048_i32
  let c1_i32_170 : BitVec 32 := 1#32
  let c0_i32_171 : BitVec 32 := 0#32
  ![v551.toNat, 1, 0]
def k0_off18 (i : grid0.Coords) : Fin 3 → Nat :=
  let arg0 : BitVec 32 := BitVec.ofNat 32 (i 0).val
  let c2048_i32 : BitVec 32 := 2048#32
  let v551 : BitVec 32 := Scalar.muli arg0 c2048_i32
  let c2_i32_174 : BitVec 32 := 2#32
  let c0_i32_175 : BitVec 32 := 0#32
  ![v551.toNat, 2, 0]
def k0_off19 (i : grid0.Coords) : Fin 3 → Nat :=
  let arg0 : BitVec 32 := BitVec.ofNat 32 (i 0).val
  let c2048_i32 : BitVec 32 := 2048#32
  let v551 : BitVec 32 := Scalar.muli arg0 c2048_i32
  let c3_i32_178 : BitVec 32 := 3#32
  let c0_i32_179 : BitVec 32 := 0#32
  ![v551.toNat, 3, 0]
def k0_off20 (i : grid0.Coords) : Fin 3 → Nat :=
  let arg0 : BitVec 32 := BitVec.ofNat 32 (i 0).val
  let c3_i32 : BitVec 32 := 3#32
  let v0 : BitVec 32 := Scalar.remsi arg0 c3_i32
  let c0_i32_188 : BitVec 32 := 0#32
  let c0_i32_189 : BitVec 32 := 0#32
  ![v0.toNat, 0, 0]
def k0_off21 (i : grid0.Coords) : Fin 3 → Nat :=
  let arg0 : BitVec 32 := BitVec.ofNat 32 (i 0).val
  let c3_i32 : BitVec 32 := 3#32
  let v0 : BitVec 32 := Scalar.remsi arg0 c3_i32
  let c0_i32_192 : BitVec 32 := 0#32
  let c128_i32_193 : BitVec 32 := 128#32
  ![v0.toNat, 0, 128]
def k0_off22 (i : grid0.Coords) : Fin 3 → Nat :=
  let arg0 : BitVec 32 := BitVec.ofNat 32 (i 0).val
  let c3_i32 : BitVec 32 := 3#32
  let v0 : BitVec 32 := Scalar.remsi arg0 c3_i32
  let c0_i32_196 : BitVec 32 := 0#32
  let c256_i32_197 : BitVec 32 := 256#32
  ![v0.toNat, 0, 256]
def k0_cond2 (i : grid0.Coords) : BitVec 1 :=
  let arg0 : BitVec 32 := BitVec.ofNat 32 (i 0).val
  let c7_i32 : BitVec 32 := 7#32
  let v608 : BitVec 1 := Scalar.cmpi .eq arg0 c7_i32
  let v609 : BitVec 32 := Scalar.extui v608
  let c0_i32_198 : BitVec 32 := 0#32
  let v610 : BitVec 1 := Scalar.cmpi .ne v609 c0_i32_198
  v610

def k0_cond3 (i : grid0.Coords) : BitVec 1 :=
  let arg0 : BitVec 32 := BitVec.ofNat 32 (i 0).val
  let c2_i32_199 : BitVec 32 := 2#32
  let v611 : BitVec 1 := Scalar.cmpi .sge arg0 c2_i32_199
  let v612 : BitVec 32 := Scalar.extui v611
  let c0_i32_200 : BitVec 32 := 0#32
  let v613 : BitVec 1 := Scalar.cmpi .ne v612 c0_i32_200
  v613

def k0_off23 (i : grid0.Coords) : Fin 1 → Nat :=
  let arg0 : BitVec 32 := BitVec.ofNat 32 (i 0).val
  let c2_i32_236 : BitVec 32 := 2#32
  let v674 : BitVec 32 := Scalar.subi arg0 c2_i32_236
  let c3_i32_237 : BitVec 32 := 3#32
  let v675 : BitVec 32 := Scalar.addi v674 c3_i32_237
  let c3_i32_238 : BitVec 32 := 3#32
  let v676 : BitVec 32 := Scalar.remsi v675 c3_i32_238
  ![v676.toNat]
def k0_off24 (i : grid0.Coords) : Fin 3 → Nat :=
  let arg0 : BitVec 32 := BitVec.ofNat 32 (i 0).val
  let c2_i32_239 : BitVec 32 := 2#32
  let v677 : BitVec 32 := Scalar.subi arg0 c2_i32_239
  let c2048_i32_240 : BitVec 32 := 2048#32
  let v678 : BitVec 32 := Scalar.muli v677 c2048_i32_240
  let c0_i32_241 : BitVec 32 := 0#32
  let c0_i32_242 : BitVec 32 := 0#32
  ![v678.toNat, 0, 0]
def k0_off25 (i : grid0.Coords) : Fin 3 → Nat :=
  let arg0 : BitVec 32 := BitVec.ofNat 32 (i 0).val
  let c2_i32_236 : BitVec 32 := 2#32
  let v674 : BitVec 32 := Scalar.subi arg0 c2_i32_236
  let c3_i32_237 : BitVec 32 := 3#32
  let v675 : BitVec 32 := Scalar.addi v674 c3_i32_237
  let c3_i32_238 : BitVec 32 := 3#32
  let v676 : BitVec 32 := Scalar.remsi v675 c3_i32_238
  let c0_i32_243 : BitVec 32 := 0#32
  let c0_i32_244 : BitVec 32 := 0#32
  ![v676.toNat, 0, 0]
def k0_off26 (i : grid0.Coords) : Fin 3 → Nat :=
  let arg0 : BitVec 32 := BitVec.ofNat 32 (i 0).val
  let c2_i32_239 : BitVec 32 := 2#32
  let v677 : BitVec 32 := Scalar.subi arg0 c2_i32_239
  let c2048_i32_240 : BitVec 32 := 2048#32
  let v678 : BitVec 32 := Scalar.muli v677 c2048_i32_240
  let c1_i32_245 : BitVec 32 := 1#32
  let c0_i32_246 : BitVec 32 := 0#32
  ![v678.toNat, 1, 0]
def k0_off27 (i : grid0.Coords) : Fin 3 → Nat :=
  let arg0 : BitVec 32 := BitVec.ofNat 32 (i 0).val
  let c2_i32_239 : BitVec 32 := 2#32
  let v677 : BitVec 32 := Scalar.subi arg0 c2_i32_239
  let c2048_i32_240 : BitVec 32 := 2048#32
  let v678 : BitVec 32 := Scalar.muli v677 c2048_i32_240
  let c2_i32_249 : BitVec 32 := 2#32
  let c0_i32_250 : BitVec 32 := 0#32
  ![v678.toNat, 2, 0]
def k0_off28 (i : grid0.Coords) : Fin 3 → Nat :=
  let arg0 : BitVec 32 := BitVec.ofNat 32 (i 0).val
  let c2_i32_239 : BitVec 32 := 2#32
  let v677 : BitVec 32 := Scalar.subi arg0 c2_i32_239
  let c2048_i32_240 : BitVec 32 := 2048#32
  let v678 : BitVec 32 := Scalar.muli v677 c2048_i32_240
  let c3_i32_253 : BitVec 32 := 3#32
  let c0_i32_254 : BitVec 32 := 0#32
  ![v678.toNat, 3, 0]
def k0_off29 (i : grid0.Coords) : Fin 3 → Nat :=
  let arg0 : BitVec 32 := BitVec.ofNat 32 (i 0).val
  let c2_i32_236 : BitVec 32 := 2#32
  let v674 : BitVec 32 := Scalar.subi arg0 c2_i32_236
  let c3_i32_237 : BitVec 32 := 3#32
  let v675 : BitVec 32 := Scalar.addi v674 c3_i32_237
  let c3_i32_238 : BitVec 32 := 3#32
  let v676 : BitVec 32 := Scalar.remsi v675 c3_i32_238
  let c0_i32_263 : BitVec 32 := 0#32
  let c0_i32_264 : BitVec 32 := 0#32
  ![v676.toNat, 0, 0]
def k0_off30 (i : grid0.Coords) : Fin 3 → Nat :=
  let arg0 : BitVec 32 := BitVec.ofNat 32 (i 0).val
  let c2_i32_236 : BitVec 32 := 2#32
  let v674 : BitVec 32 := Scalar.subi arg0 c2_i32_236
  let c3_i32_237 : BitVec 32 := 3#32
  let v675 : BitVec 32 := Scalar.addi v674 c3_i32_237
  let c3_i32_238 : BitVec 32 := 3#32
  let v676 : BitVec 32 := Scalar.remsi v675 c3_i32_238
  let c0_i32_267 : BitVec 32 := 0#32
  let c128_i32_268 : BitVec 32 := 128#32
  ![v676.toNat, 0, 128]
def k0_off31 (i : grid0.Coords) : Fin 3 → Nat :=
  let arg0 : BitVec 32 := BitVec.ofNat 32 (i 0).val
  let c2_i32_236 : BitVec 32 := 2#32
  let v674 : BitVec 32 := Scalar.subi arg0 c2_i32_236
  let c3_i32_237 : BitVec 32 := 3#32
  let v675 : BitVec 32 := Scalar.addi v674 c3_i32_237
  let c3_i32_238 : BitVec 32 := 3#32
  let v676 : BitVec 32 := Scalar.remsi v675 c3_i32_238
  let c0_i32_271 : BitVec 32 := 0#32
  let c256_i32_272 : BitVec 32 := 256#32
  ![v676.toNat, 0, 256]
def k0_cond4 (i : grid0.Coords) : BitVec 1 :=
  let arg0 : BitVec 32 := BitVec.ofNat 32 (i 0).val
  let c1_i32_201 : BitVec 32 := 1#32
  let v614 : BitVec 1 := Scalar.cmpi .sge arg0 c1_i32_201
  let v615 : BitVec 32 := Scalar.extui v614
  let c0_i32_202 : BitVec 32 := 0#32
  let v616 : BitVec 1 := Scalar.cmpi .ne v615 c0_i32_202
  v616

def k0_off32 (i : grid0.Coords) : Fin 1 → Nat :=
  let arg0 : BitVec 32 := BitVec.ofNat 32 (i 0).val
  let c1_i32_236 : BitVec 32 := 1#32
  let v674 : BitVec 32 := Scalar.subi arg0 c1_i32_236
  let c3_i32_237 : BitVec 32 := 3#32
  let v675 : BitVec 32 := Scalar.addi v674 c3_i32_237
  let c3_i32_238 : BitVec 32 := 3#32
  let v676 : BitVec 32 := Scalar.remsi v675 c3_i32_238
  ![v676.toNat]
def k0_off33 (i : grid0.Coords) : Fin 3 → Nat :=
  let arg0 : BitVec 32 := BitVec.ofNat 32 (i 0).val
  let c1_i32_239 : BitVec 32 := 1#32
  let v677 : BitVec 32 := Scalar.subi arg0 c1_i32_239
  let c2048_i32_240 : BitVec 32 := 2048#32
  let v678 : BitVec 32 := Scalar.muli v677 c2048_i32_240
  let c0_i32_241 : BitVec 32 := 0#32
  let c0_i32_242 : BitVec 32 := 0#32
  ![v678.toNat, 0, 0]
def k0_off34 (i : grid0.Coords) : Fin 3 → Nat :=
  let arg0 : BitVec 32 := BitVec.ofNat 32 (i 0).val
  let c1_i32_236 : BitVec 32 := 1#32
  let v674 : BitVec 32 := Scalar.subi arg0 c1_i32_236
  let c3_i32_237 : BitVec 32 := 3#32
  let v675 : BitVec 32 := Scalar.addi v674 c3_i32_237
  let c3_i32_238 : BitVec 32 := 3#32
  let v676 : BitVec 32 := Scalar.remsi v675 c3_i32_238
  let c0_i32_243 : BitVec 32 := 0#32
  let c0_i32_244 : BitVec 32 := 0#32
  ![v676.toNat, 0, 0]
def k0_off35 (i : grid0.Coords) : Fin 3 → Nat :=
  let arg0 : BitVec 32 := BitVec.ofNat 32 (i 0).val
  let c1_i32_239 : BitVec 32 := 1#32
  let v677 : BitVec 32 := Scalar.subi arg0 c1_i32_239
  let c2048_i32_240 : BitVec 32 := 2048#32
  let v678 : BitVec 32 := Scalar.muli v677 c2048_i32_240
  let c1_i32_245 : BitVec 32 := 1#32
  let c0_i32_246 : BitVec 32 := 0#32
  ![v678.toNat, 1, 0]
def k0_off36 (i : grid0.Coords) : Fin 3 → Nat :=
  let arg0 : BitVec 32 := BitVec.ofNat 32 (i 0).val
  let c1_i32_239 : BitVec 32 := 1#32
  let v677 : BitVec 32 := Scalar.subi arg0 c1_i32_239
  let c2048_i32_240 : BitVec 32 := 2048#32
  let v678 : BitVec 32 := Scalar.muli v677 c2048_i32_240
  let c2_i32_249 : BitVec 32 := 2#32
  let c0_i32_250 : BitVec 32 := 0#32
  ![v678.toNat, 2, 0]
def k0_off37 (i : grid0.Coords) : Fin 3 → Nat :=
  let arg0 : BitVec 32 := BitVec.ofNat 32 (i 0).val
  let c1_i32_239 : BitVec 32 := 1#32
  let v677 : BitVec 32 := Scalar.subi arg0 c1_i32_239
  let c2048_i32_240 : BitVec 32 := 2048#32
  let v678 : BitVec 32 := Scalar.muli v677 c2048_i32_240
  let c3_i32_253 : BitVec 32 := 3#32
  let c0_i32_254 : BitVec 32 := 0#32
  ![v678.toNat, 3, 0]
def k0_off38 (i : grid0.Coords) : Fin 3 → Nat :=
  let arg0 : BitVec 32 := BitVec.ofNat 32 (i 0).val
  let c1_i32_236 : BitVec 32 := 1#32
  let v674 : BitVec 32 := Scalar.subi arg0 c1_i32_236
  let c3_i32_237 : BitVec 32 := 3#32
  let v675 : BitVec 32 := Scalar.addi v674 c3_i32_237
  let c3_i32_238 : BitVec 32 := 3#32
  let v676 : BitVec 32 := Scalar.remsi v675 c3_i32_238
  let c0_i32_263 : BitVec 32 := 0#32
  let c0_i32_264 : BitVec 32 := 0#32
  ![v676.toNat, 0, 0]
def k0_off39 (i : grid0.Coords) : Fin 3 → Nat :=
  let arg0 : BitVec 32 := BitVec.ofNat 32 (i 0).val
  let c1_i32_236 : BitVec 32 := 1#32
  let v674 : BitVec 32 := Scalar.subi arg0 c1_i32_236
  let c3_i32_237 : BitVec 32 := 3#32
  let v675 : BitVec 32 := Scalar.addi v674 c3_i32_237
  let c3_i32_238 : BitVec 32 := 3#32
  let v676 : BitVec 32 := Scalar.remsi v675 c3_i32_238
  let c0_i32_267 : BitVec 32 := 0#32
  let c128_i32_268 : BitVec 32 := 128#32
  ![v676.toNat, 0, 128]
def k0_off40 (i : grid0.Coords) : Fin 3 → Nat :=
  let arg0 : BitVec 32 := BitVec.ofNat 32 (i 0).val
  let c1_i32_236 : BitVec 32 := 1#32
  let v674 : BitVec 32 := Scalar.subi arg0 c1_i32_236
  let c3_i32_237 : BitVec 32 := 3#32
  let v675 : BitVec 32 := Scalar.addi v674 c3_i32_237
  let c3_i32_238 : BitVec 32 := 3#32
  let v676 : BitVec 32 := Scalar.remsi v675 c3_i32_238
  let c0_i32_271 : BitVec 32 := 0#32
  let c256_i32_272 : BitVec 32 := 256#32
  ![v676.toNat, 0, 256]
def k0_off41 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off42 (i : grid0.Coords) : Fin 3 → Nat :=
  let arg0 : BitVec 32 := BitVec.ofNat 32 (i 0).val
  let c2048_i32_203 : BitVec 32 := 2048#32
  let v617 : BitVec 32 := Scalar.muli arg0 c2048_i32_203
  let c0_i32_204 : BitVec 32 := 0#32
  let c0_i32_205 : BitVec 32 := 0#32
  ![v617.toNat, 0, 0]
def k0_off43 (i : grid0.Coords) : Fin 3 → Nat :=
  let arg0 : BitVec 32 := BitVec.ofNat 32 (i 0).val
  let c3_i32 : BitVec 32 := 3#32
  let v0 : BitVec 32 := Scalar.remsi arg0 c3_i32
  let c0_i32_206 : BitVec 32 := 0#32
  let c0_i32_207 : BitVec 32 := 0#32
  ![v0.toNat, 0, 0]
def k0_off44 (i : grid0.Coords) : Fin 3 → Nat :=
  let arg0 : BitVec 32 := BitVec.ofNat 32 (i 0).val
  let c2048_i32_203 : BitVec 32 := 2048#32
  let v617 : BitVec 32 := Scalar.muli arg0 c2048_i32_203
  let c1_i32_208 : BitVec 32 := 1#32
  let c0_i32_209 : BitVec 32 := 0#32
  ![v617.toNat, 1, 0]
def k0_off45 (i : grid0.Coords) : Fin 3 → Nat :=
  let arg0 : BitVec 32 := BitVec.ofNat 32 (i 0).val
  let c2048_i32_203 : BitVec 32 := 2048#32
  let v617 : BitVec 32 := Scalar.muli arg0 c2048_i32_203
  let c2_i32_212 : BitVec 32 := 2#32
  let c0_i32_213 : BitVec 32 := 0#32
  ![v617.toNat, 2, 0]
def k0_off46 (i : grid0.Coords) : Fin 3 → Nat :=
  let arg0 : BitVec 32 := BitVec.ofNat 32 (i 0).val
  let c2048_i32_203 : BitVec 32 := 2048#32
  let v617 : BitVec 32 := Scalar.muli arg0 c2048_i32_203
  let c3_i32_216 : BitVec 32 := 3#32
  let c0_i32_217 : BitVec 32 := 0#32
  ![v617.toNat, 3, 0]
def k0_off47 (i : grid0.Coords) : Fin 3 → Nat :=
  let arg0 : BitVec 32 := BitVec.ofNat 32 (i 0).val
  let c3_i32 : BitVec 32 := 3#32
  let v0 : BitVec 32 := Scalar.remsi arg0 c3_i32
  let c0_i32_226 : BitVec 32 := 0#32
  let c0_i32_227 : BitVec 32 := 0#32
  ![v0.toNat, 0, 0]
def k0_off48 (i : grid0.Coords) : Fin 3 → Nat :=
  let arg0 : BitVec 32 := BitVec.ofNat 32 (i 0).val
  let c3_i32 : BitVec 32 := 3#32
  let v0 : BitVec 32 := Scalar.remsi arg0 c3_i32
  let c0_i32_230 : BitVec 32 := 0#32
  let c128_i32_231 : BitVec 32 := 128#32
  ![v0.toNat, 0, 128]
def k0_off49 (i : grid0.Coords) : Fin 3 → Nat :=
  let arg0 : BitVec 32 := BitVec.ofNat 32 (i 0).val
  let c3_i32 : BitVec 32 := 3#32
  let v0 : BitVec 32 := Scalar.remsi arg0 c3_i32
  let c0_i32_234 : BitVec 32 := 0#32
  let c256_i32_235 : BitVec 32 := 256#32
  ![v0.toNat, 0, 256]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S16384x128 : Shape := ⟨2, ![16384, 128]⟩
abbrev S16384x4x128 : Shape := ⟨3, ![16384, 4, 128]⟩
abbrev S65536x128 : Shape := ⟨2, ![65536, 128]⟩
abbrev S_ : Shape := ⟨0, ![]⟩
abbrev S1 : Shape := ⟨1, ![1]⟩
abbrev S2 : Shape := ⟨1, ![2]⟩
abbrev S1x1 : Shape := ⟨2, ![1, 1]⟩
abbrev S65536 : Shape := ⟨1, ![65536]⟩
abbrev S65536x1 : Shape := ⟨2, ![65536, 1]⟩

abbrev nBuf : Space → Nat
  | .hbm => 325
  | .vmem => 0
  | .smem => 0
  | _ => 0

abbrev hbmTy0_0 (i : Nat) : BufTy := match i % 128 with
  | 0 => ⟨S16384x128, .f32⟩
  | 1 => ⟨S16384x4x128, .f32⟩
  | 2 => ⟨S65536x128, .f32⟩
  | 3 => ⟨S_, .f32⟩
  | 4 => ⟨S65536x128, .f32⟩
  | 5 => ⟨S65536x128, .i1⟩
  | 6 => ⟨S65536x128, .f32⟩
  | 7 => ⟨S_, .f32⟩
  | 8 => ⟨S65536x128, .f32⟩
  | 9 => ⟨S65536x128, .f32⟩
  | 10 => ⟨S_, .i32⟩
  | 11 => ⟨S_, .i32⟩
  | 12 => ⟨S_, .i32⟩
  | 13 => ⟨S_, .i32⟩
  | 14 => ⟨S1, .i32⟩
  | 15 => ⟨S_, .i32⟩
  | 16 => ⟨S_, .i32⟩
  | 17 => ⟨S_, .i32⟩
  | 18 => ⟨S1, .i32⟩
  | 19 => ⟨S2, .i32⟩
  | 20 => ⟨S_, .f32⟩
  | 21 => ⟨S_, .f32⟩
  | 22 => ⟨S_, .f32⟩
  | 23 => ⟨S_, .f32⟩
  | 24 => ⟨S1x1, .f32⟩
  | 25 => ⟨S1x1, .f32⟩
  | 26 => ⟨S1, .i32⟩
  | 27 => ⟨S_, .i32⟩
  | 28 => ⟨S1, .i32⟩
  | 29 => ⟨S_, .i32⟩
  | 30 => ⟨S65536x128, .i64⟩
  | 31 => ⟨S65536x128, .i64⟩
  | 32 => ⟨S_, .i64⟩
  | 33 => ⟨S65536x128, .i64⟩
  | 34 => ⟨S65536x128, .i64⟩
  | 35 => ⟨S_, .i64⟩
  | 36 => ⟨S65536x128, .i64⟩
  | 37 => ⟨S65536x128, .i64⟩
  | 38 => ⟨S65536x128, .i64⟩
  | 39 => ⟨S_, .i64⟩
  | 40 => ⟨S65536x128, .i64⟩
  | 41 => ⟨S65536x128, .i64⟩
  | 42 => ⟨S65536x128, .i32⟩
  | 43 => ⟨S65536x128, .i32⟩
  | 44 => ⟨S_, .i32⟩
  | 45 => ⟨S_, .i32⟩
  | 46 => ⟨S_, .i32⟩
  | 47 => ⟨S65536x128, .i32⟩
  | 48 => ⟨S65536x128, .i32⟩
  | 49 => ⟨S65536x128, .i32⟩
  | 50 => ⟨S65536x128, .i32⟩
  | 51 => ⟨S65536x128, .i32⟩
  | 52 => ⟨S_, .i32⟩
  | 53 => ⟨S65536x128, .i32⟩
  | 54 => ⟨S65536x128, .i32⟩
  | 55 => ⟨S_, .i32⟩
  | 56 => ⟨S65536x128, .i32⟩
  | 57 => ⟨S65536x128, .i32⟩
  | 58 => ⟨S65536x128, .i32⟩
  | 59 => ⟨S65536x128, .i32⟩
  | 60 => ⟨S65536x128, .i32⟩
  | 61 => ⟨S_, .i32⟩
  | 62 => ⟨S65536x128, .i32⟩
  | 63 => ⟨S65536x128, .i32⟩
  | 64 => ⟨S_, .i32⟩
  | 65 => ⟨S65536x128, .i32⟩
  | 66 => ⟨S65536x128, .i32⟩
  | 67 => ⟨S65536x128, .i32⟩
  | 68 => ⟨S65536x128, .i32⟩
  | 69 => ⟨S65536x128, .i32⟩
  | 70 => ⟨S_, .i32⟩
  | 71 => ⟨S65536x128, .i32⟩
  | 72 => ⟨S65536x128, .i32⟩
  | 73 => ⟨S_, .i32⟩
  | 74 => ⟨S65536x128, .i32⟩
  | 75 => ⟨S65536x128, .i32⟩
  | 76 => ⟨S65536x128, .i32⟩
  | 77 => ⟨S65536x128, .i32⟩
  | 78 => ⟨S65536x128, .i32⟩
  | 79 => ⟨S_, .i32⟩
  | 80 => ⟨S65536x128, .i32⟩
  | 81 => ⟨S65536x128, .i32⟩
  | 82 => ⟨S_, .i32⟩
  | 83 => ⟨S65536x128, .i32⟩
  | 84 => ⟨S65536x128, .i32⟩
  | 85 => ⟨S65536x128, .i32⟩
  | 86 => ⟨S65536x128, .i32⟩
  | 87 => ⟨S65536x128, .i32⟩
  | 88 => ⟨S65536x128, .i32⟩
  | 89 => ⟨S65536x128, .i32⟩
  | 90 => ⟨S65536x128, .i32⟩
  | 91 => ⟨S_, .i32⟩
  | 92 => ⟨S65536x128, .i32⟩
  | 93 => ⟨S65536x128, .i32⟩
  | 94 => ⟨S65536x128, .i32⟩
  | 95 => ⟨S_, .i32⟩
  | 96 => ⟨S65536x128, .i32⟩
  | 97 => ⟨S65536x128, .i32⟩
  | 98 => ⟨S_, .i32⟩
  | 99 => ⟨S65536x128, .i32⟩
  | 100 => ⟨S65536x128, .i32⟩
  | 101 => ⟨S65536x128, .i32⟩
  | 102 => ⟨S65536x128, .i32⟩
  | 103 => ⟨S65536x128, .i32⟩
  | 104 => ⟨S_, .i32⟩
  | 105 => ⟨S65536x128, .i32⟩
  | 106 => ⟨S65536x128, .i32⟩
  | 107 => ⟨S_, .i32⟩
  | 108 => ⟨S65536x128, .i32⟩
  | 109 => ⟨S65536x128, .i32⟩
  | 110 => ⟨S65536x128, .i32⟩
  | 111 => ⟨S65536x128, .i32⟩
  | 112 => ⟨S65536x128, .i32⟩
  | 113 => ⟨S_, .i32⟩
  | 114 => ⟨S65536x128, .i32⟩
  | 115 => ⟨S65536x128, .i32⟩
  | 116 => ⟨S_, .i32⟩
  | 117 => ⟨S65536x128, .i32⟩
  | 118 => ⟨S65536x128, .i32⟩
  | 119 => ⟨S65536x128, .i32⟩
  | 120 => ⟨S65536x128, .i32⟩
  | 121 => ⟨S65536x128, .i32⟩
  | 122 => ⟨S_, .i32⟩
  | 123 => ⟨S65536x128, .i32⟩
  | 124 => ⟨S65536x128, .i32⟩
  | 125 => ⟨S_, .i32⟩
  | 126 => ⟨S65536x128, .i32⟩
  | 127 => ⟨S65536x128, .i32⟩
  | _ => ⟨S16384x128, .f32⟩

abbrev hbmTy0_1 (i : Nat) : BufTy := match i % 128 with
  | 0 => ⟨S65536x128, .i32⟩
  | 1 => ⟨S65536x128, .i32⟩
  | 2 => ⟨S65536x128, .i32⟩
  | 3 => ⟨S65536x128, .i32⟩
  | 4 => ⟨S65536x128, .i32⟩
  | 5 => ⟨S65536x128, .i32⟩
  | 6 => ⟨S_, .i32⟩
  | 7 => ⟨S65536x128, .i32⟩
  | 8 => ⟨S65536x128, .i32⟩
  | 9 => ⟨S65536x128, .i32⟩
  | 10 => ⟨S_, .i32⟩
  | 11 => ⟨S65536x128, .i32⟩
  | 12 => ⟨S65536x128, .i32⟩
  | 13 => ⟨S_, .i32⟩
  | 14 => ⟨S65536x128, .i32⟩
  | 15 => ⟨S65536x128, .i32⟩
  | 16 => ⟨S65536x128, .i32⟩
  | 17 => ⟨S65536x128, .i32⟩
  | 18 => ⟨S65536x128, .i32⟩
  | 19 => ⟨S_, .i32⟩
  | 20 => ⟨S65536x128, .i32⟩
  | 21 => ⟨S65536x128, .i32⟩
  | 22 => ⟨S_, .i32⟩
  | 23 => ⟨S65536x128, .i32⟩
  | 24 => ⟨S65536x128, .i32⟩
  | 25 => ⟨S65536x128, .i32⟩
  | 26 => ⟨S65536x128, .i32⟩
  | 27 => ⟨S65536x128, .i32⟩
  | 28 => ⟨S_, .i32⟩
  | 29 => ⟨S65536x128, .i32⟩
  | 30 => ⟨S65536x128, .i32⟩
  | 31 => ⟨S_, .i32⟩
  | 32 => ⟨S65536x128, .i32⟩
  | 33 => ⟨S65536x128, .i32⟩
  | 34 => ⟨S65536x128, .i32⟩
  | 35 => ⟨S65536x128, .i32⟩
  | 36 => ⟨S65536x128, .i32⟩
  | 37 => ⟨S_, .i32⟩
  | 38 => ⟨S65536x128, .i32⟩
  | 39 => ⟨S65536x128, .i32⟩
  | 40 => ⟨S_, .i32⟩
  | 41 => ⟨S65536x128, .i32⟩
  | 42 => ⟨S65536x128, .i32⟩
  | 43 => ⟨S65536x128, .i32⟩
  | 44 => ⟨S65536x128, .i32⟩
  | 45 => ⟨S65536x128, .i32⟩
  | 46 => ⟨S65536x128, .i32⟩
  | 47 => ⟨S65536x128, .i32⟩
  | 48 => ⟨S65536x128, .i32⟩
  | 49 => ⟨S_, .i32⟩
  | 50 => ⟨S65536x128, .i32⟩
  | 51 => ⟨S65536x128, .i32⟩
  | 52 => ⟨S65536x128, .i32⟩
  | 53 => ⟨S_, .i32⟩
  | 54 => ⟨S65536x128, .i32⟩
  | 55 => ⟨S65536x128, .i32⟩
  | 56 => ⟨S_, .i32⟩
  | 57 => ⟨S65536x128, .i32⟩
  | 58 => ⟨S65536x128, .i32⟩
  | 59 => ⟨S65536x128, .i32⟩
  | 60 => ⟨S65536x128, .i32⟩
  | 61 => ⟨S65536x128, .i32⟩
  | 62 => ⟨S_, .i32⟩
  | 63 => ⟨S65536x128, .i32⟩
  | 64 => ⟨S65536x128, .i32⟩
  | 65 => ⟨S_, .i32⟩
  | 66 => ⟨S65536x128, .i32⟩
  | 67 => ⟨S65536x128, .i32⟩
  | 68 => ⟨S65536x128, .i32⟩
  | 69 => ⟨S65536x128, .i32⟩
  | 70 => ⟨S65536x128, .i32⟩
  | 71 => ⟨S_, .i32⟩
  | 72 => ⟨S65536x128, .i32⟩
  | 73 => ⟨S65536x128, .i32⟩
  | 74 => ⟨S_, .i32⟩
  | 75 => ⟨S65536x128, .i32⟩
  | 76 => ⟨S65536x128, .i32⟩
  | 77 => ⟨S65536x128, .i32⟩
  | 78 => ⟨S65536x128, .i32⟩
  | 79 => ⟨S65536x128, .i32⟩
  | 80 => ⟨S_, .i32⟩
  | 81 => ⟨S65536x128, .i32⟩
  | 82 => ⟨S65536x128, .i32⟩
  | 83 => ⟨S_, .i32⟩
  | 84 => ⟨S65536x128, .i32⟩
  | 85 => ⟨S65536x128, .i32⟩
  | 86 => ⟨S65536x128, .i32⟩
  | 87 => ⟨S65536x128, .i32⟩
  | 88 => ⟨S65536x128, .i32⟩
  | 89 => ⟨S65536x128, .i32⟩
  | 90 => ⟨S65536x128, .i32⟩
  | 91 => ⟨S65536x128, .i32⟩
  | 92 => ⟨S_, .i32⟩
  | 93 => ⟨S65536x128, .i32⟩
  | 94 => ⟨S65536x128, .i32⟩
  | 95 => ⟨S65536x128, .i32⟩
  | 96 => ⟨S_, .i32⟩
  | 97 => ⟨S65536x128, .i32⟩
  | 98 => ⟨S65536x128, .i32⟩
  | 99 => ⟨S_, .i32⟩
  | 100 => ⟨S65536x128, .i32⟩
  | 101 => ⟨S65536x128, .i32⟩
  | 102 => ⟨S65536x128, .i32⟩
  | 103 => ⟨S65536x128, .i32⟩
  | 104 => ⟨S65536x128, .i32⟩
  | 105 => ⟨S_, .i32⟩
  | 106 => ⟨S65536x128, .i32⟩
  | 107 => ⟨S65536x128, .i32⟩
  | 108 => ⟨S_, .i32⟩
  | 109 => ⟨S65536x128, .i32⟩
  | 110 => ⟨S65536x128, .i32⟩
  | 111 => ⟨S65536x128, .i32⟩
  | 112 => ⟨S65536x128, .i32⟩
  | 113 => ⟨S65536x128, .i32⟩
  | 114 => ⟨S_, .i32⟩
  | 115 => ⟨S65536x128, .i32⟩
  | 116 => ⟨S65536x128, .i32⟩
  | 117 => ⟨S_, .i32⟩
  | 118 => ⟨S65536x128, .i32⟩
  | 119 => ⟨S65536x128, .i32⟩
  | 120 => ⟨S65536x128, .i32⟩
  | 121 => ⟨S65536x128, .i32⟩
  | 122 => ⟨S65536x128, .i32⟩
  | 123 => ⟨S_, .i32⟩
  | 124 => ⟨S65536x128, .i32⟩
  | 125 => ⟨S65536x128, .i32⟩
  | 126 => ⟨S_, .i32⟩
  | 127 => ⟨S65536x128, .i32⟩
  | _ => ⟨S16384x128, .f32⟩

abbrev hbmTy0_2 (i : Nat) : BufTy := match i % 128 with
  | 0 => ⟨S65536x128, .i32⟩
  | 1 => ⟨S65536x128, .i32⟩
  | 2 => ⟨S65536x128, .i32⟩
  | 3 => ⟨S65536x128, .i32⟩
  | 4 => ⟨S65536x128, .i32⟩
  | 5 => ⟨S65536x128, .i32⟩
  | 6 => ⟨S65536x128, .i32⟩
  | 7 => ⟨S_, .i32⟩
  | 8 => ⟨S65536x128, .i32⟩
  | 9 => ⟨S65536x128, .i32⟩
  | 10 => ⟨S65536x128, .i32⟩
  | 11 => ⟨S_, .i32⟩
  | 12 => ⟨S65536x128, .i32⟩
  | 13 => ⟨S65536x128, .i32⟩
  | 14 => ⟨S_, .i32⟩
  | 15 => ⟨S65536x128, .i32⟩
  | 16 => ⟨S65536x128, .i32⟩
  | 17 => ⟨S65536x128, .f32⟩
  | 18 => ⟨S_, .f32⟩
  | 19 => ⟨S65536x128, .f32⟩
  | 20 => ⟨S65536x128, .f32⟩
  | 21 => ⟨S1x1, .f32⟩
  | 22 => ⟨S65536x128, .f32⟩
  | 23 => ⟨S65536x128, .f32⟩
  | 24 => ⟨S65536x128, .f32⟩
  | 25 => ⟨S65536x128, .f32⟩
  | 26 => ⟨S65536x128, .f32⟩
  | 27 => ⟨S65536x128, .f32⟩
  | 28 => ⟨S65536x128, .i1⟩
  | 29 => ⟨S65536x128, .f32⟩
  | 30 => ⟨S65536, .i32⟩
  | 31 => ⟨S65536x1, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S65536x1, .i32⟩
  | 39 => ⟨S65536x1, .i32⟩
  | 40 => ⟨S_, .i32⟩
  | 41 => ⟨S65536x1, .i32⟩
  | 42 => ⟨S65536x1, .i1⟩
  | 43 => ⟨S_, .i32⟩
  | 44 => ⟨S65536x1, .i32⟩
  | 45 => ⟨S65536x1, .i1⟩
  | 46 => ⟨S_, .i32⟩
  | 47 => ⟨S_, .i1⟩
  | 48 => ⟨S65536x1, .i1⟩
  | 49 => ⟨S65536x1, .i1⟩
  | 50 => ⟨S65536x1, .i1⟩
  | 51 => ⟨S65536x1, .i32⟩
  | 52 => ⟨S65536x1, .i32⟩
  | 53 => ⟨S65536x1, .i32⟩
  | 54 => ⟨S_, .i32⟩
  | 55 => ⟨S65536x1, .i32⟩
  | 56 => ⟨S65536x1, .i1⟩
  | 57 => ⟨S_, .f32⟩
  | 58 => ⟨S_, .f32⟩
  | 59 => ⟨S65536x128, .i1⟩
  | 60 => ⟨S65536x128, .f32⟩
  | 61 => ⟨S65536x128, .f32⟩
  | 62 => ⟨S_, .f32⟩
  | 63 => ⟨S65536x128, .f32⟩
  | 64 => ⟨S65536x128, .i1⟩
  | 65 => ⟨S_, .f32⟩
  | 66 => ⟨S_, .f32⟩
  | 67 => ⟨S65536x128, .f32⟩
  | 68 => ⟨S65536x128, .f32⟩
  | _ => ⟨S16384x128, .f32⟩

abbrev hbmTy (i : Nat) : BufTy := match i / 128 with
  | 0 => hbmTy0_0 i
  | 1 => hbmTy0_1 i
  | 2 => hbmTy0_2 i
  | _ => ⟨S16384x128, .f32⟩

abbrev bufTy : (tb : Table) → Fin (tcTables nBuf tb) → BufTy
  | .hbm, ⟨i, _⟩ => hbmTy i
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_cst_0 : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_c : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_call0_c_0 : Ref sig .tc := ⟨.hbm, 35, rfl⟩
abbrev main_call0_call0_v12 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_c_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_call0_v0 : Ref sig .tc := ⟨.hbm, 44, rfl⟩
abbrev main_call0_call0_call0_c : Ref sig .tc := ⟨.hbm, 45, rfl⟩
abbrev main_call0_call0_call0_v1 : Ref sig .tc := ⟨.hbm, 46, rfl⟩
abbrev main_call0_call0_call0_v2 : Ref sig .tc := ⟨.hbm, 47, rfl⟩
abbrev main_call0_call0_call0_v3 : Ref sig .tc := ⟨.hbm, 48, rfl⟩
abbrev main_call0_call0_call0_v4 : Ref sig .tc := ⟨.hbm, 49, rfl⟩
abbrev main_call0_call0_call0_v5 : Ref sig .tc := ⟨.hbm, 50, rfl⟩
abbrev main_call0_call0_call0_v6 : Ref sig .tc := ⟨.hbm, 51, rfl⟩
abbrev main_call0_call0_call0_c_0 : Ref sig .tc := ⟨.hbm, 52, rfl⟩
abbrev main_call0_call0_call0_v7 : Ref sig .tc := ⟨.hbm, 53, rfl⟩
abbrev main_call0_call0_call0_v8 : Ref sig .tc := ⟨.hbm, 54, rfl⟩
abbrev main_call0_call0_call0_c_1 : Ref sig .tc := ⟨.hbm, 55, rfl⟩
abbrev main_call0_call0_call0_v9 : Ref sig .tc := ⟨.hbm, 56, rfl⟩
abbrev main_call0_call0_call0_v10 : Ref sig .tc := ⟨.hbm, 57, rfl⟩
abbrev main_call0_call0_call0_v11 : Ref sig .tc := ⟨.hbm, 58, rfl⟩
abbrev main_call0_call0_call0_v12 : Ref sig .tc := ⟨.hbm, 59, rfl⟩
abbrev main_call0_call0_call0_v13 : Ref sig .tc := ⟨.hbm, 60, rfl⟩
abbrev main_call0_call0_call0_c_2 : Ref sig .tc := ⟨.hbm, 61, rfl⟩
abbrev main_call0_call0_call0_v14 : Ref sig .tc := ⟨.hbm, 62, rfl⟩
abbrev main_call0_call0_call0_v15 : Ref sig .tc := ⟨.hbm, 63, rfl⟩
abbrev main_call0_call0_call0_c_3 : Ref sig .tc := ⟨.hbm, 64, rfl⟩
abbrev main_call0_call0_call0_v16 : Ref sig .tc := ⟨.hbm, 65, rfl⟩
abbrev main_call0_call0_call0_v17 : Ref sig .tc := ⟨.hbm, 66, rfl⟩
abbrev main_call0_call0_call0_v18 : Ref sig .tc := ⟨.hbm, 67, rfl⟩
abbrev main_call0_call0_call0_v19 : Ref sig .tc := ⟨.hbm, 68, rfl⟩
abbrev main_call0_call0_call0_v20 : Ref sig .tc := ⟨.hbm, 69, rfl⟩
abbrev main_call0_call0_call0_c_4 : Ref sig .tc := ⟨.hbm, 70, rfl⟩
abbrev main_call0_call0_call0_v21 : Ref sig .tc := ⟨.hbm, 71, rfl⟩
abbrev main_call0_call0_call0_v22 : Ref sig .tc := ⟨.hbm, 72, rfl⟩
abbrev main_call0_call0_call0_c_5 : Ref sig .tc := ⟨.hbm, 73, rfl⟩
abbrev main_call0_call0_call0_v23 : Ref sig .tc := ⟨.hbm, 74, rfl⟩
abbrev main_call0_call0_call0_v24 : Ref sig .tc := ⟨.hbm, 75, rfl⟩
abbrev main_call0_call0_call0_v25 : Ref sig .tc := ⟨.hbm, 76, rfl⟩
abbrev main_call0_call0_call0_v26 : Ref sig .tc := ⟨.hbm, 77, rfl⟩
abbrev main_call0_call0_call0_v27 : Ref sig .tc := ⟨.hbm, 78, rfl⟩
abbrev main_call0_call0_call0_c_6 : Ref sig .tc := ⟨.hbm, 79, rfl⟩
abbrev main_call0_call0_call0_v28 : Ref sig .tc := ⟨.hbm, 80, rfl⟩
abbrev main_call0_call0_call0_v29 : Ref sig .tc := ⟨.hbm, 81, rfl⟩
abbrev main_call0_call0_call0_c_7 : Ref sig .tc := ⟨.hbm, 82, rfl⟩
abbrev main_call0_call0_call0_v30 : Ref sig .tc := ⟨.hbm, 83, rfl⟩
abbrev main_call0_call0_call0_v31 : Ref sig .tc := ⟨.hbm, 84, rfl⟩
abbrev main_call0_call0_call0_v32 : Ref sig .tc := ⟨.hbm, 85, rfl⟩
abbrev main_call0_call0_call0_v33 : Ref sig .tc := ⟨.hbm, 86, rfl⟩
abbrev main_call0_call0_call0_v34 : Ref sig .tc := ⟨.hbm, 87, rfl⟩
abbrev main_call0_call0_call0_v35 : Ref sig .tc := ⟨.hbm, 88, rfl⟩
abbrev main_call0_call0_call0_v36 : Ref sig .tc := ⟨.hbm, 89, rfl⟩
abbrev main_call0_call0_call0_v37 : Ref sig .tc := ⟨.hbm, 90, rfl⟩
abbrev main_call0_call0_call0_c_8 : Ref sig .tc := ⟨.hbm, 91, rfl⟩
abbrev main_call0_call0_call0_v38 : Ref sig .tc := ⟨.hbm, 92, rfl⟩
abbrev main_call0_call0_call0_v39 : Ref sig .tc := ⟨.hbm, 93, rfl⟩
abbrev main_call0_call0_call0_v40 : Ref sig .tc := ⟨.hbm, 94, rfl⟩
abbrev main_call0_call0_call0_c_9 : Ref sig .tc := ⟨.hbm, 95, rfl⟩
abbrev main_call0_call0_call0_v41 : Ref sig .tc := ⟨.hbm, 96, rfl⟩
abbrev main_call0_call0_call0_v42 : Ref sig .tc := ⟨.hbm, 97, rfl⟩
abbrev main_call0_call0_call0_c_10 : Ref sig .tc := ⟨.hbm, 98, rfl⟩
abbrev main_call0_call0_call0_v43 : Ref sig .tc := ⟨.hbm, 99, rfl⟩
abbrev main_call0_call0_call0_v44 : Ref sig .tc := ⟨.hbm, 100, rfl⟩
abbrev main_call0_call0_call0_v45 : Ref sig .tc := ⟨.hbm, 101, rfl⟩
abbrev main_call0_call0_call0_v46 : Ref sig .tc := ⟨.hbm, 102, rfl⟩
abbrev main_call0_call0_call0_v47 : Ref sig .tc := ⟨.hbm, 103, rfl⟩
abbrev main_call0_call0_call0_c_11 : Ref sig .tc := ⟨.hbm, 104, rfl⟩
abbrev main_call0_call0_call0_v48 : Ref sig .tc := ⟨.hbm, 105, rfl⟩
abbrev main_call0_call0_call0_v49 : Ref sig .tc := ⟨.hbm, 106, rfl⟩
abbrev main_call0_call0_call0_c_12 : Ref sig .tc := ⟨.hbm, 107, rfl⟩
abbrev main_call0_call0_call0_v50 : Ref sig .tc := ⟨.hbm, 108, rfl⟩
abbrev main_call0_call0_call0_v51 : Ref sig .tc := ⟨.hbm, 109, rfl⟩
abbrev main_call0_call0_call0_v52 : Ref sig .tc := ⟨.hbm, 110, rfl⟩
abbrev main_call0_call0_call0_v53 : Ref sig .tc := ⟨.hbm, 111, rfl⟩
abbrev main_call0_call0_call0_v54 : Ref sig .tc := ⟨.hbm, 112, rfl⟩
abbrev main_call0_call0_call0_c_13 : Ref sig .tc := ⟨.hbm, 113, rfl⟩
abbrev main_call0_call0_call0_v55 : Ref sig .tc := ⟨.hbm, 114, rfl⟩
abbrev main_call0_call0_call0_v56 : Ref sig .tc := ⟨.hbm, 115, rfl⟩
abbrev main_call0_call0_call0_c_14 : Ref sig .tc := ⟨.hbm, 116, rfl⟩
abbrev main_call0_call0_call0_v57 : Ref sig .tc := ⟨.hbm, 117, rfl⟩
abbrev main_call0_call0_call0_v58 : Ref sig .tc := ⟨.hbm, 118, rfl⟩
abbrev main_call0_call0_call0_v59 : Ref sig .tc := ⟨.hbm, 119, rfl⟩
abbrev main_call0_call0_call0_v60 : Ref sig .tc := ⟨.hbm, 120, rfl⟩
abbrev main_call0_call0_call0_v61 : Ref sig .tc := ⟨.hbm, 121, rfl⟩
abbrev main_call0_call0_call0_c_15 : Ref sig .tc := ⟨.hbm, 122, rfl⟩
abbrev main_call0_call0_call0_v62 : Ref sig .tc := ⟨.hbm, 123, rfl⟩
abbrev main_call0_call0_call0_v63 : Ref sig .tc := ⟨.hbm, 124, rfl⟩
abbrev main_call0_call0_call0_c_16 : Ref sig .tc := ⟨.hbm, 125, rfl⟩
abbrev main_call0_call0_call0_v64 : Ref sig .tc := ⟨.hbm, 126, rfl⟩
abbrev main_call0_call0_call0_v65 : Ref sig .tc := ⟨.hbm, 127, rfl⟩
abbrev main_call0_call0_call0_v66 : Ref sig .tc := ⟨.hbm, 128, rfl⟩
abbrev main_call0_call0_call0_v67 : Ref sig .tc := ⟨.hbm, 129, rfl⟩
abbrev main_call0_call0_call0_v68 : Ref sig .tc := ⟨.hbm, 130, rfl⟩
abbrev main_call0_call0_call0_v69 : Ref sig .tc := ⟨.hbm, 131, rfl⟩
abbrev main_call0_call0_call0_v70 : Ref sig .tc := ⟨.hbm, 132, rfl⟩
abbrev main_call0_call0_call0_v71 : Ref sig .tc := ⟨.hbm, 133, rfl⟩
abbrev main_call0_call0_call0_c_17 : Ref sig .tc := ⟨.hbm, 134, rfl⟩
abbrev main_call0_call0_call0_v72 : Ref sig .tc := ⟨.hbm, 135, rfl⟩
abbrev main_call0_call0_call0_v73 : Ref sig .tc := ⟨.hbm, 136, rfl⟩
abbrev main_call0_call0_call0_v74 : Ref sig .tc := ⟨.hbm, 137, rfl⟩
abbrev main_call0_call0_call0_c_18 : Ref sig .tc := ⟨.hbm, 138, rfl⟩
abbrev main_call0_call0_call0_v75 : Ref sig .tc := ⟨.hbm, 139, rfl⟩
abbrev main_call0_call0_call0_v76 : Ref sig .tc := ⟨.hbm, 140, rfl⟩
abbrev main_call0_call0_call0_c_19 : Ref sig .tc := ⟨.hbm, 141, rfl⟩
abbrev main_call0_call0_call0_v77 : Ref sig .tc := ⟨.hbm, 142, rfl⟩
abbrev main_call0_call0_call0_v78 : Ref sig .tc := ⟨.hbm, 143, rfl⟩
abbrev main_call0_call0_call0_v79 : Ref sig .tc := ⟨.hbm, 144, rfl⟩
abbrev main_call0_call0_call0_v80 : Ref sig .tc := ⟨.hbm, 145, rfl⟩
abbrev main_call0_call0_call0_v81 : Ref sig .tc := ⟨.hbm, 146, rfl⟩
abbrev main_call0_call0_call0_c_20 : Ref sig .tc := ⟨.hbm, 147, rfl⟩
abbrev main_call0_call0_call0_v82 : Ref sig .tc := ⟨.hbm, 148, rfl⟩
abbrev main_call0_call0_call0_v83 : Ref sig .tc := ⟨.hbm, 149, rfl⟩
abbrev main_call0_call0_call0_c_21 : Ref sig .tc := ⟨.hbm, 150, rfl⟩
abbrev main_call0_call0_call0_v84 : Ref sig .tc := ⟨.hbm, 151, rfl⟩
abbrev main_call0_call0_call0_v85 : Ref sig .tc := ⟨.hbm, 152, rfl⟩
abbrev main_call0_call0_call0_v86 : Ref sig .tc := ⟨.hbm, 153, rfl⟩
abbrev main_call0_call0_call0_v87 : Ref sig .tc := ⟨.hbm, 154, rfl⟩
abbrev main_call0_call0_call0_v88 : Ref sig .tc := ⟨.hbm, 155, rfl⟩
abbrev main_call0_call0_call0_c_22 : Ref sig .tc := ⟨.hbm, 156, rfl⟩
abbrev main_call0_call0_call0_v89 : Ref sig .tc := ⟨.hbm, 157, rfl⟩
abbrev main_call0_call0_call0_v90 : Ref sig .tc := ⟨.hbm, 158, rfl⟩
abbrev main_call0_call0_call0_c_23 : Ref sig .tc := ⟨.hbm, 159, rfl⟩
abbrev main_call0_call0_call0_v91 : Ref sig .tc := ⟨.hbm, 160, rfl⟩
abbrev main_call0_call0_call0_v92 : Ref sig .tc := ⟨.hbm, 161, rfl⟩
abbrev main_call0_call0_call0_v93 : Ref sig .tc := ⟨.hbm, 162, rfl⟩
abbrev main_call0_call0_call0_v94 : Ref sig .tc := ⟨.hbm, 163, rfl⟩
abbrev main_call0_call0_call0_v95 : Ref sig .tc := ⟨.hbm, 164, rfl⟩
abbrev main_call0_call0_call0_c_24 : Ref sig .tc := ⟨.hbm, 165, rfl⟩
abbrev main_call0_call0_call0_v96 : Ref sig .tc := ⟨.hbm, 166, rfl⟩
abbrev main_call0_call0_call0_v97 : Ref sig .tc := ⟨.hbm, 167, rfl⟩
abbrev main_call0_call0_call0_c_25 : Ref sig .tc := ⟨.hbm, 168, rfl⟩
abbrev main_call0_call0_call0_v98 : Ref sig .tc := ⟨.hbm, 169, rfl⟩
abbrev main_call0_call0_call0_v99 : Ref sig .tc := ⟨.hbm, 170, rfl⟩
abbrev main_call0_call0_call0_v100 : Ref sig .tc := ⟨.hbm, 171, rfl⟩
abbrev main_call0_call0_call0_v101 : Ref sig .tc := ⟨.hbm, 172, rfl⟩
abbrev main_call0_call0_call0_v102 : Ref sig .tc := ⟨.hbm, 173, rfl⟩
abbrev main_call0_call0_call0_v103 : Ref sig .tc := ⟨.hbm, 174, rfl⟩
abbrev main_call0_call0_call0_v104 : Ref sig .tc := ⟨.hbm, 175, rfl⟩
abbrev main_call0_call0_call0_v105 : Ref sig .tc := ⟨.hbm, 176, rfl⟩
abbrev main_call0_call0_call0_c_26 : Ref sig .tc := ⟨.hbm, 177, rfl⟩
abbrev main_call0_call0_call0_v106 : Ref sig .tc := ⟨.hbm, 178, rfl⟩
abbrev main_call0_call0_call0_v107 : Ref sig .tc := ⟨.hbm, 179, rfl⟩
abbrev main_call0_call0_call0_v108 : Ref sig .tc := ⟨.hbm, 180, rfl⟩
abbrev main_call0_call0_call0_c_27 : Ref sig .tc := ⟨.hbm, 181, rfl⟩
abbrev main_call0_call0_call0_v109 : Ref sig .tc := ⟨.hbm, 182, rfl⟩
abbrev main_call0_call0_call0_v110 : Ref sig .tc := ⟨.hbm, 183, rfl⟩
abbrev main_call0_call0_call0_c_28 : Ref sig .tc := ⟨.hbm, 184, rfl⟩
abbrev main_call0_call0_call0_v111 : Ref sig .tc := ⟨.hbm, 185, rfl⟩
abbrev main_call0_call0_call0_v112 : Ref sig .tc := ⟨.hbm, 186, rfl⟩
abbrev main_call0_call0_call0_v113 : Ref sig .tc := ⟨.hbm, 187, rfl⟩
abbrev main_call0_call0_call0_v114 : Ref sig .tc := ⟨.hbm, 188, rfl⟩
abbrev main_call0_call0_call0_v115 : Ref sig .tc := ⟨.hbm, 189, rfl⟩
abbrev main_call0_call0_call0_c_29 : Ref sig .tc := ⟨.hbm, 190, rfl⟩
abbrev main_call0_call0_call0_v116 : Ref sig .tc := ⟨.hbm, 191, rfl⟩
abbrev main_call0_call0_call0_v117 : Ref sig .tc := ⟨.hbm, 192, rfl⟩
abbrev main_call0_call0_call0_c_30 : Ref sig .tc := ⟨.hbm, 193, rfl⟩
abbrev main_call0_call0_call0_v118 : Ref sig .tc := ⟨.hbm, 194, rfl⟩
abbrev main_call0_call0_call0_v119 : Ref sig .tc := ⟨.hbm, 195, rfl⟩
abbrev main_call0_call0_call0_v120 : Ref sig .tc := ⟨.hbm, 196, rfl⟩
abbrev main_call0_call0_call0_v121 : Ref sig .tc := ⟨.hbm, 197, rfl⟩
abbrev main_call0_call0_call0_v122 : Ref sig .tc := ⟨.hbm, 198, rfl⟩
abbrev main_call0_call0_call0_c_31 : Ref sig .tc := ⟨.hbm, 199, rfl⟩
abbrev main_call0_call0_call0_v123 : Ref sig .tc := ⟨.hbm, 200, rfl⟩
abbrev main_call0_call0_call0_v124 : Ref sig .tc := ⟨.hbm, 201, rfl⟩
abbrev main_call0_call0_call0_c_32 : Ref sig .tc := ⟨.hbm, 202, rfl⟩
abbrev main_call0_call0_call0_v125 : Ref sig .tc := ⟨.hbm, 203, rfl⟩
abbrev main_call0_call0_call0_v126 : Ref sig .tc := ⟨.hbm, 204, rfl⟩
abbrev main_call0_call0_call0_v127 : Ref sig .tc := ⟨.hbm, 205, rfl⟩
abbrev main_call0_call0_call0_v128 : Ref sig .tc := ⟨.hbm, 206, rfl⟩
abbrev main_call0_call0_call0_v129 : Ref sig .tc := ⟨.hbm, 207, rfl⟩
abbrev main_call0_call0_call0_c_33 : Ref sig .tc := ⟨.hbm, 208, rfl⟩
abbrev main_call0_call0_call0_v130 : Ref sig .tc := ⟨.hbm, 209, rfl⟩
abbrev main_call0_call0_call0_v131 : Ref sig .tc := ⟨.hbm, 210, rfl⟩
abbrev main_call0_call0_call0_c_34 : Ref sig .tc := ⟨.hbm, 211, rfl⟩
abbrev main_call0_call0_call0_v132 : Ref sig .tc := ⟨.hbm, 212, rfl⟩
abbrev main_call0_call0_call0_v133 : Ref sig .tc := ⟨.hbm, 213, rfl⟩
abbrev main_call0_call0_call0_v134 : Ref sig .tc := ⟨.hbm, 214, rfl⟩
abbrev main_call0_call0_call0_v135 : Ref sig .tc := ⟨.hbm, 215, rfl⟩
abbrev main_call0_call0_call0_v136 : Ref sig .tc := ⟨.hbm, 216, rfl⟩
abbrev main_call0_call0_call0_v137 : Ref sig .tc := ⟨.hbm, 217, rfl⟩
abbrev main_call0_call0_call0_v138 : Ref sig .tc := ⟨.hbm, 218, rfl⟩
abbrev main_call0_call0_call0_v139 : Ref sig .tc := ⟨.hbm, 219, rfl⟩
abbrev main_call0_call0_call0_c_35 : Ref sig .tc := ⟨.hbm, 220, rfl⟩
abbrev main_call0_call0_call0_v140 : Ref sig .tc := ⟨.hbm, 221, rfl⟩
abbrev main_call0_call0_call0_v141 : Ref sig .tc := ⟨.hbm, 222, rfl⟩
abbrev main_call0_call0_call0_v142 : Ref sig .tc := ⟨.hbm, 223, rfl⟩
abbrev main_call0_call0_call0_c_36 : Ref sig .tc := ⟨.hbm, 224, rfl⟩
abbrev main_call0_call0_call0_v143 : Ref sig .tc := ⟨.hbm, 225, rfl⟩
abbrev main_call0_call0_call0_v144 : Ref sig .tc := ⟨.hbm, 226, rfl⟩
abbrev main_call0_call0_call0_c_37 : Ref sig .tc := ⟨.hbm, 227, rfl⟩
abbrev main_call0_call0_call0_v145 : Ref sig .tc := ⟨.hbm, 228, rfl⟩
abbrev main_call0_call0_call0_v146 : Ref sig .tc := ⟨.hbm, 229, rfl⟩
abbrev main_call0_call0_call0_v147 : Ref sig .tc := ⟨.hbm, 230, rfl⟩
abbrev main_call0_call0_call0_v148 : Ref sig .tc := ⟨.hbm, 231, rfl⟩
abbrev main_call0_call0_call0_v149 : Ref sig .tc := ⟨.hbm, 232, rfl⟩
abbrev main_call0_call0_call0_c_38 : Ref sig .tc := ⟨.hbm, 233, rfl⟩
abbrev main_call0_call0_call0_v150 : Ref sig .tc := ⟨.hbm, 234, rfl⟩
abbrev main_call0_call0_call0_v151 : Ref sig .tc := ⟨.hbm, 235, rfl⟩
abbrev main_call0_call0_call0_c_39 : Ref sig .tc := ⟨.hbm, 236, rfl⟩
abbrev main_call0_call0_call0_v152 : Ref sig .tc := ⟨.hbm, 237, rfl⟩
abbrev main_call0_call0_call0_v153 : Ref sig .tc := ⟨.hbm, 238, rfl⟩
abbrev main_call0_call0_call0_v154 : Ref sig .tc := ⟨.hbm, 239, rfl⟩
abbrev main_call0_call0_call0_v155 : Ref sig .tc := ⟨.hbm, 240, rfl⟩
abbrev main_call0_call0_call0_v156 : Ref sig .tc := ⟨.hbm, 241, rfl⟩
abbrev main_call0_call0_call0_c_40 : Ref sig .tc := ⟨.hbm, 242, rfl⟩
abbrev main_call0_call0_call0_v157 : Ref sig .tc := ⟨.hbm, 243, rfl⟩
abbrev main_call0_call0_call0_v158 : Ref sig .tc := ⟨.hbm, 244, rfl⟩
abbrev main_call0_call0_call0_c_41 : Ref sig .tc := ⟨.hbm, 245, rfl⟩
abbrev main_call0_call0_call0_v159 : Ref sig .tc := ⟨.hbm, 246, rfl⟩
abbrev main_call0_call0_call0_v160 : Ref sig .tc := ⟨.hbm, 247, rfl⟩
abbrev main_call0_call0_call0_v161 : Ref sig .tc := ⟨.hbm, 248, rfl⟩
abbrev main_call0_call0_call0_v162 : Ref sig .tc := ⟨.hbm, 249, rfl⟩
abbrev main_call0_call0_call0_v163 : Ref sig .tc := ⟨.hbm, 250, rfl⟩
abbrev main_call0_call0_call0_c_42 : Ref sig .tc := ⟨.hbm, 251, rfl⟩
abbrev main_call0_call0_call0_v164 : Ref sig .tc := ⟨.hbm, 252, rfl⟩
abbrev main_call0_call0_call0_v165 : Ref sig .tc := ⟨.hbm, 253, rfl⟩
abbrev main_call0_call0_call0_c_43 : Ref sig .tc := ⟨.hbm, 254, rfl⟩
abbrev main_call0_call0_call0_v166 : Ref sig .tc := ⟨.hbm, 255, rfl⟩
abbrev main_call0_call0_call0_v167 : Ref sig .tc := ⟨.hbm, 256, rfl⟩
abbrev main_call0_call0_call0_v168 : Ref sig .tc := ⟨.hbm, 257, rfl⟩
abbrev main_call0_call0_call0_v169 : Ref sig .tc := ⟨.hbm, 258, rfl⟩
abbrev main_call0_call0_call0_v170 : Ref sig .tc := ⟨.hbm, 259, rfl⟩
abbrev main_call0_call0_v19_0 : Ref sig .tc := ⟨.hbm, 260, rfl⟩
abbrev main_call0_call0_call0_v172 : Ref sig .tc := ⟨.hbm, 261, rfl⟩
abbrev main_call0_call0_call0_v173 : Ref sig .tc := ⟨.hbm, 262, rfl⟩
abbrev main_call0_call0_call0_c_44 : Ref sig .tc := ⟨.hbm, 263, rfl⟩
abbrev main_call0_call0_call0_v174 : Ref sig .tc := ⟨.hbm, 264, rfl⟩
abbrev main_call0_call0_v19_1 : Ref sig .tc := ⟨.hbm, 265, rfl⟩
abbrev main_call0_call0_v20 : Ref sig .tc := ⟨.hbm, 266, rfl⟩
abbrev main_call0_call0_c_2 : Ref sig .tc := ⟨.hbm, 267, rfl⟩
abbrev main_call0_call0_v21 : Ref sig .tc := ⟨.hbm, 268, rfl⟩
abbrev main_call0_call0_v22 : Ref sig .tc := ⟨.hbm, 269, rfl⟩
abbrev main_call0_call0_c_3 : Ref sig .tc := ⟨.hbm, 270, rfl⟩
abbrev main_call0_call0_v23 : Ref sig .tc := ⟨.hbm, 271, rfl⟩
abbrev main_call0_call0_v24 : Ref sig .tc := ⟨.hbm, 272, rfl⟩
abbrev main_call0_call0_v25 : Ref sig .tc := ⟨.hbm, 273, rfl⟩
abbrev main_call0_call0_cst : Ref sig .tc := ⟨.hbm, 274, rfl⟩
abbrev main_call0_call0_v26 : Ref sig .tc := ⟨.hbm, 275, rfl⟩
abbrev main_call0_call0_v27 : Ref sig .tc := ⟨.hbm, 276, rfl⟩
abbrev main_call0_call0_v28 : Ref sig .tc := ⟨.hbm, 277, rfl⟩
abbrev main_call0_call0_v29 : Ref sig .tc := ⟨.hbm, 278, rfl⟩
abbrev main_call0_call0_v30 : Ref sig .tc := ⟨.hbm, 279, rfl⟩
abbrev main_call0_call0_v31 : Ref sig .tc := ⟨.hbm, 280, rfl⟩
abbrev main_call0_call0_v32 : Ref sig .tc := ⟨.hbm, 281, rfl⟩
abbrev main_call0_call0_v33 : Ref sig .tc := ⟨.hbm, 282, rfl⟩
abbrev main_call0_v0 : Ref sig .tc := ⟨.hbm, 283, rfl⟩
abbrev main_v14 : Ref sig .tc := ⟨.hbm, 284, rfl⟩
abbrev main_v15 : Ref sig .tc := ⟨.hbm, 285, rfl⟩
abbrev main_v16 : Ref sig .tc := ⟨.hbm, 286, rfl⟩
abbrev main_v17 : Ref sig .tc := ⟨.hbm, 287, rfl⟩
abbrev main_c_3 : Ref sig .tc := ⟨.hbm, 288, rfl⟩
abbrev main_call1_v0 : Ref sig .tc := ⟨.hbm, 289, rfl⟩
abbrev main_call1_c : Ref sig .tc := ⟨.hbm, 290, rfl⟩
abbrev main_call1_v1 : Ref sig .tc := ⟨.hbm, 291, rfl⟩
abbrev main_call1_c_0 : Ref sig .tc := ⟨.hbm, 292, rfl⟩
abbrev main_call1_v2 : Ref sig .tc := ⟨.hbm, 293, rfl⟩
abbrev main_call1_v3 : Ref sig .tc := ⟨.hbm, 294, rfl⟩
abbrev main_call1_v4 : Ref sig .tc := ⟨.hbm, 295, rfl⟩
abbrev main_call1_c_1 : Ref sig .tc := ⟨.hbm, 296, rfl⟩
abbrev main_call1_v5 : Ref sig .tc := ⟨.hbm, 297, rfl⟩
abbrev main_call1_v6 : Ref sig .tc := ⟨.hbm, 298, rfl⟩
abbrev main_call1_c_2 : Ref sig .tc := ⟨.hbm, 299, rfl⟩
abbrev main_call1_v7 : Ref sig .tc := ⟨.hbm, 300, rfl⟩
abbrev main_call1_v8 : Ref sig .tc := ⟨.hbm, 301, rfl⟩
abbrev main_call1_c_3 : Ref sig .tc := ⟨.hbm, 302, rfl⟩
abbrev main_call1_v9 : Ref sig .tc := ⟨.hbm, 303, rfl⟩
abbrev main_call1_v10 : Ref sig .tc := ⟨.hbm, 304, rfl⟩
abbrev main_call1_v11 : Ref sig .tc := ⟨.hbm, 305, rfl⟩
abbrev main_call1_v12 : Ref sig .tc := ⟨.hbm, 306, rfl⟩
abbrev main_call1_v13 : Ref sig .tc := ⟨.hbm, 307, rfl⟩
abbrev main_call1_v14 : Ref sig .tc := ⟨.hbm, 308, rfl⟩
abbrev main_v18 : Ref sig .tc := ⟨.hbm, 309, rfl⟩
abbrev main_c_4 : Ref sig .tc := ⟨.hbm, 310, rfl⟩
abbrev main_v19 : Ref sig .tc := ⟨.hbm, 311, rfl⟩
abbrev main_v20 : Ref sig .tc := ⟨.hbm, 312, rfl⟩
abbrev main_cst_5 : Ref sig .tc := ⟨.hbm, 313, rfl⟩
abbrev main_call2_v0 : Ref sig .tc := ⟨.hbm, 314, rfl⟩
abbrev main_call2_v1 : Ref sig .tc := ⟨.hbm, 315, rfl⟩
abbrev main_call2_v2 : Ref sig .tc := ⟨.hbm, 316, rfl⟩
abbrev main_v21 : Ref sig .tc := ⟨.hbm, 317, rfl⟩
abbrev main_cst_6 : Ref sig .tc := ⟨.hbm, 318, rfl⟩
abbrev main_v22 : Ref sig .tc := ⟨.hbm, 319, rfl⟩
abbrev main_v23 : Ref sig .tc := ⟨.hbm, 320, rfl⟩
abbrev main_cst_7 : Ref sig .tc := ⟨.hbm, 321, rfl⟩
abbrev main_call3_v0 : Ref sig .tc := ⟨.hbm, 322, rfl⟩
abbrev main_call3_v1 : Ref sig .tc := ⟨.hbm, 323, rfl⟩
abbrev main_v24 : Ref sig .tc := ⟨.hbm, 324, rfl⟩

abbrev nD : Nat := 1
abbrev τ : Topo := Topo.v7x

variable {F : FTy → Type} [FloatOps F]
-- ==== Proof.Geometry.lean ====
/-
  The places the kernel's copies read and write, in coordinates: which rows of a result a copy of one grid point covers,
  which slot of a ring it reads, and that a store to a slot determines that slot.
-/
module

public import proofs.«01_k».proof.Proof.Gen.KernelIdeal.Skeleton
public import Idealize.ShloMosaic.Lib.ViewIndex
public import Idealize.ShloMosaic.Lib.Pointwise.Index
public import Idealize.ShloMosaic.Lib.ValueLayout

@[expose] public section

noncomputable section

namespace Cert.KernelIdeal.Hand

open Cert.KernelIdeal Cert.KernelIdeal.Gen
open Idealize.ShloMosaic Idealize.ShloMosaic

/-- The two results in HBM and the two rings. -/
abbrev xoM : Memref sig .tc .hbm S65536x128 .f32 := Memref.whole main_v0_0
abbrev xvM : Memref sig .tc .hbm S65536x128 .f32 := Memref.whole main_v0_1
abbrev sxM : Memref sig .tc .vmem S3x2048x128 .f32 := Memref.whole cc0_scratch0
abbrev svM : Memref sig .tc .vmem S3x2048x384 .f32 := Memref.whole cc0_scratch1

/-- A copy's destination: of a result read as 16384 × 4 × 128, the 2048 × 128 plane at an offset. -/
abbrev rowsView (M : Memref sig .tc .hbm S65536x128 .f32) (h : M.IsWhole) (off : Fin 3 → ℕ)
    (hb : ∀ a, off a + S2048x1x128.size a ≤ S16384x4x128.size a) : Memref sig .tc .hbm S2048x128 .f32 :=
  ((M.reshape S16384x4x128 reshapes_S65536x128_S16384x4x128.1 reshapes_S65536x128_S16384x4x128.2 h.contiguous).slice
    (Rect.unit (s := S16384x4x128) off S2048x1x128.size hb) (fun _ => rfl)).squeeze S2048x128 squeezes_S2048x1x128_S2048x128

/-- A copy's source in the first ring: one slot. -/
abbrev slotX (M : Memref sig .tc .vmem S3x2048x128 .f32) (off : Fin 3 → ℕ)
    (hb : ∀ a, off a + S1x2048x128.size a ≤ S3x2048x128.size a) : Memref sig .tc .vmem S2048x128 .f32 :=
  (M.slice (Rect.unit (s := S3x2048x128) off S1x2048x128.size hb) (fun _ => rfl)).squeeze S2048x128 squeezes_S1x2048x128_S2048x128

/-- A copy's source in the second ring: 128 lanes of one slot. -/
abbrev slotV (M : Memref sig .tc .vmem S3x2048x384 .f32) (off : Fin 3 → ℕ)
    (hb : ∀ a, off a + S1x2048x128.size a ≤ S3x2048x384.size a) : Memref sig .tc .vmem S2048x128 .f32 :=
  (M.slice (Rect.unit (s := S3x2048x384) off S1x2048x128.size hb) (fun _ => rfl)).squeeze S2048x128 squeezes_S1x2048x128_S2048x128

/-- The rows of a result that come from grid point `t` and end in residue `m` modulo 4. -/
def rowsOf (t m : ℕ) : Finset S65536x128.Idx := Finset.univ.filter fun j => (j 0).val / 8192 = t ∧ (j 0).val % 4 = m
/-- Slot `k` of the first ring. -/
def slotSet (k : ℕ) : Finset S3x2048x128.Idx := Finset.univ.filter fun j => (j 0).val = k
/-- Slot `k` of the second ring, and its `l`-th 128 lanes. -/
def slotSetV (k : ℕ) : Finset S3x2048x384.Idx := Finset.univ.filter fun j => (j 0).val = k
def laneSet (k l : ℕ) : Finset S3x2048x384.Idx := Finset.univ.filter fun j => (j 0).val = k ∧ (j 2).val / 128 = l

/-- A 2048 × 128 index as one of 2048 × 1 × 128. -/
theorem squeeze_mid (h : S2048x128.numel = S2048x1x128.numel) (y : S2048x128.Idx) :
    Shape.reshapeEquiv h y = (ix3 (y 0) (0 : Fin 1) (y 1) : S2048x1x128.Idx) :=
  Shape.reshapeEquiv_eq_of_rowMajor h (by
    rw [Shape.rowMajor_val_three, Shape.rowMajor_val_two]
    show (((y 0).val * 1 + 0) * 128 + (y 1).val) = (y 0).val * 128 + (y 1).val
    omega)

/-- A 2048 × 128 index as one of 1 × 2048 × 128. -/
theorem squeeze_lead (h : S2048x128.numel = S1x2048x128.numel) (y : S2048x128.Idx) :
    Shape.reshapeEquiv h y = (ix3 (0 : Fin 1) (y 0) (y 1) : S1x2048x128.Idx) :=
  Shape.reshapeEquiv_eq_of_rowMajor h (by
    rw [Shape.rowMajor_val_three, Shape.rowMajor_val_two]
    show ((0 * 2048 + (y 0).val) * 128 + (y 1).val) = (y 0).val * 128 + (y 1).val
    omega)

/-- A point of a copy's destination plane: row `y` of the plane at `![a, m, 0]` is row `4 * (a + y) + m` of the result. -/
theorem emb_rows (M : Memref sig .tc .hbm S65536x128 .f32) (h : M.IsWhole) (off : Fin 3 → ℕ) (hb) (a m : ℕ)
    (ho : off = ![a, m, 0]) (y : S2048x128.Idx) (hlt : 4 * (a + (y 0).val) + m < 65536) :
    (rowsView M h off hb).view.emb y = M.view.emb (ix2 (⟨4 * (a + (y 0).val) + m, hlt⟩ : Fin 65536) (y 1) : S65536x128.Idx) := by
  subst ho
  have h1 : m + 1 ≤ 4 := hb 1
  show M.view.emb (Shape.reshapeEquiv _ ((Rect.unit (s := S16384x4x128) ![a, m, 0] S2048x1x128.size hb).emb (Shape.reshapeEquiv _ y))) = _
  rw [squeeze_mid]
  refine congrArg M.view.emb (Shape.reshapeEquiv_eq_of_rowMajor _ ?_)
  rw [Shape.rowMajor_val_three, Shape.rowMajor_val_two]
  show (4 * (a + (y 0).val) + m) * 128 + (y 1).val = ((a + 1 * (y 0).val) * 4 + (m + 1 * 0)) * 128 + (0 + 1 * (y 1).val)
  omega

/-- The plane at `![2048 * t, m, 0]` is the rows of point `t` with residue `m`. -/
theorem set_rows (M : Memref sig .tc .hbm S65536x128 .f32) (h : M.IsWhole) (off : Fin 3 → ℕ) (hb) (t m : ℕ)
    (ho : off = ![2048 * t, m, 0]) : (rowsView M h off hb).view.set = (rowsOf t m).map M.view.emb := by
  have h0 : 2048 * t + 2048 ≤ 16384 := by have := hb 0; rw [ho] at this; exact this
  have h1 : m + 1 ≤ 4 := by have := hb 1; rw [ho] at this; exact this
  ext j
  constructor
  · intro hj
    obtain ⟨y, -, rfl⟩ := Finset.mem_map.mp hj
    have hy0 : (y 0).val < 2048 := (y 0).isLt
    rw [emb_rows M h off hb (2048 * t) m ho y (by omega)]
    refine Finset.mem_map_of_mem _ (Finset.mem_filter.mpr ⟨Finset.mem_univ _, ?_, ?_⟩)
    · show (4 * (2048 * t + (y 0).val) + m) / 8192 = t; omega
    · show (4 * (2048 * t + (y 0).val) + m) % 4 = m; omega
  · intro hj
    obtain ⟨x, hx, rfl⟩ := Finset.mem_map.mp hj
    obtain ⟨-, hx0, hx1⟩ := Finset.mem_filter.mp hx
    have hlt : (x 0).val < 65536 := (x 0).isLt
    have hy : (x 0).val / 4 - 2048 * t < 2048 := by omega
    have hl : 4 * (2048 * t + ((x 0).val / 4 - 2048 * t)) + m < 65536 := by omega
    have e : x = (ix2 (⟨4 * (2048 * t + ((x 0).val / 4 - 2048 * t)) + m, hl⟩ : Fin 65536) (x 1) : S65536x128.Idx) := by
      funext a
      match a with
      | ⟨0, _⟩ => exact Fin.ext (show (x 0).val = 4 * (2048 * t + ((x 0).val / 4 - 2048 * t)) + m by omega)
      | ⟨1, _⟩ => rfl
    have e' := emb_rows M h off hb (2048 * t) m ho (ix2 (⟨(x 0).val / 4 - 2048 * t, hy⟩ : Fin 2048) (x 1) : S2048x128.Idx) hl
    have e'' : M.view.emb x = (rowsView M h off hb).view.emb (ix2 (⟨(x 0).val / 4 - 2048 * t, hy⟩ : Fin 2048) (x 1) : S2048x128.Idx) :=
      (congrArg M.view.emb e).trans e'.symm
    rw [e'']
    exact View.emb_mem_set _ _

/-- A point of a slot of the first ring. -/
theorem emb_slotX (M : Memref sig .tc .vmem S3x2048x128 .f32) (off : Fin 3 → ℕ) (hb) (k : ℕ) (hk : k < 3)
    (ho : off = ![k, 0, 0]) (y : S2048x128.Idx) :
    (slotX M off hb).view.emb y = M.view.emb (ix3 (⟨k, hk⟩ : Fin 3) (y 0) (y 1) : S3x2048x128.Idx) := by
  subst ho
  show M.view.emb ((Rect.unit (s := S3x2048x128) ![k, 0, 0] S1x2048x128.size hb).emb (Shape.reshapeEquiv _ y)) = _
  rw [squeeze_lead]
  refine congrArg M.view.emb (Shape.idx3_ext ?_ ?_ ?_)
  · show k + 1 * 0 = k; omega
  · show 0 + 1 * (y 0).val = (y 0).val; omega
  · show 0 + 1 * (y 1).val = (y 1).val; omega

/-- A point of the `l`-th 128 lanes of a slot of the second ring. -/
theorem emb_slotV (M : Memref sig .tc .vmem S3x2048x384 .f32) (off : Fin 3 → ℕ) (hb) (k l : ℕ) (hk : k < 3)
    (ho : off = ![k, 0, 128 * l]) (y : S2048x128.Idx) (hlt : 128 * l + (y 1).val < 384) :
    (slotV M off hb).view.emb y
      = M.view.emb (ix3 (⟨k, hk⟩ : Fin 3) (y 0) (⟨128 * l + (y 1).val, hlt⟩ : Fin 384) : S3x2048x384.Idx) := by
  subst ho
  show M.view.emb ((Rect.unit (s := S3x2048x384) ![k, 0, 128 * l] S1x2048x128.size hb).emb (Shape.reshapeEquiv _ y)) = _
  rw [squeeze_lead]
  refine congrArg M.view.emb (Shape.idx3_ext ?_ ?_ ?_)
  · show k + 1 * 0 = k; omega
  · show 0 + 1 * (y 0).val = (y 0).val; omega
  · show 128 * l + 1 * (y 1).val = 128 * l + (y 1).val; omega

/-- The slot is all of the ring's elements with that first coordinate. -/
theorem mem_slotX_rect (off : Fin 3 → ℕ) (hb) (k : ℕ) (ho : off = ![k, 0, 0]) :
    (Rect.unit (s := S3x2048x128) off S1x2048x128.size hb).set = slotSet k := by
  subst ho
  ext j
  have h1 : (j 1).val < 2048 := (j 1).isLt
  have h2 : (j 2).val < 128 := (j 2).isLt
  rw [Rect.mem_set_unit, slotSet, Finset.mem_filter]
  refine ⟨fun h => ⟨Finset.mem_univ _, ?_⟩, fun ⟨_, h⟩ a => ?_⟩
  · have h' : k ≤ (j 0).val ∧ (j 0).val < k + 1 := h 0
    omega
  · match a with
    | ⟨0, _⟩ => show k ≤ (j 0).val ∧ (j 0).val < k + 1; omega
    | ⟨1, _⟩ => show 0 ≤ (j 1).val ∧ (j 1).val < 0 + 2048; omega
    | ⟨2, _⟩ => show 0 ≤ (j 2).val ∧ (j 2).val < 0 + 128; omega

theorem mem_slotV_rect (off : Fin 3 → ℕ) (hb) (k l : ℕ) (ho : off = ![k, 0, 128 * l]) :
    (Rect.unit (s := S3x2048x384) off S1x2048x128.size hb).set = laneSet k l := by
  subst ho
  ext j
  have h1 : (j 1).val < 2048 := (j 1).isLt
  rw [Rect.mem_set_unit, laneSet, Finset.mem_filter]
  refine ⟨fun h => ⟨Finset.mem_univ _, ?_⟩, fun ⟨_, h⟩ a => ?_⟩
  · have h' : k ≤ (j 0).val ∧ (j 0).val < k + 1 := h 0
    have h'' : 128 * l ≤ (j 2).val ∧ (j 2).val < 128 * l + 128 := h 2
    omega
  · match a with
    | ⟨0, _⟩ => show k ≤ (j 0).val ∧ (j 0).val < k + 1; omega
    | ⟨1, _⟩ => show 0 ≤ (j 1).val ∧ (j 1).val < 0 + 2048; omega
    | ⟨2, _⟩ => show 128 * l ≤ (j 2).val ∧ (j 2).val < 128 * l + 128; omega

theorem set_slotX (off : Fin 3 → ℕ) (hb) (k : ℕ) (ho : off = ![k, 0, 0]) : (slotX sxM off hb).view.set = slotSet k := by
  rw [← mem_slotX_rect off hb k ho]
  exact (View.set_reshape _ _).trans (View.set_slice_whole _ _)

theorem set_slotV (off : Fin 3 → ℕ) (hb) (k l : ℕ) (ho : off = ![k, 0, 128 * l]) : (slotV svM off hb).view.set = laneSet k l := by
  rw [← mem_slotV_rect off hb k l ho]
  exact (View.set_reshape _ _).trans (View.set_slice_whole _ _)

end Cert.KernelIdeal.Hand

end
-- ==== Proof.Values.lean ====
/-
  What the kernel leaves in its two results, as functions of the argument: the rows of the argument each repeated four
  times, and the same with the second, third and fourth copy masked by the kernel's own random words.
-/
module

public import proofs.«01_k».proof.Proof.Geometry

@[expose] public section

noncomputable section

namespace Cert.KernelIdeal.Hand

open Cert.KernelIdeal Cert.KernelIdeal.Gen
open Idealize.ShloMosaic

variable {F : FTy → Type} [FloatOps F]

/-- What point `i` stores in the first 128 lanes of its slot of the second ring, from its block `v` of the argument. -/
def lane0 (i : grid0.Coords) (v : Vec F S2048x128 .f32) : FVec F S1x2048x128 .f32 :=
  have a := k0_pay20 (k0_pay6 i) (k0_pay7 i) (k0_pay8 i) k0_pay9
  have b := k0_pay21 (k0_pay6 i) (k0_pay7 i) (k0_pay8 i) k0_pay9
  k0_pay47 v (k0_pay45 (k0_pay32 a b 0#32) (k0_pay33 a b 0#32) k0_pay34) (k0_pay46 (k0_pay32 a b 0#32) (k0_pay33 a b 0#32) k0_pay34)

/-- The same of the second 128 lanes. -/
def lane1 (i : grid0.Coords) (v : Vec F S2048x128 .f32) : FVec F S1x2048x128 .f32 :=
  have a := k0_pay64 (k0_pay51 (k0_pay1 i)) (k0_pay52 (k0_pay1 i)) (k0_pay53 (k0_pay1 i)) 6#32
  have b := k0_pay65 (k0_pay51 (k0_pay1 i)) (k0_pay52 (k0_pay1 i)) (k0_pay53 (k0_pay1 i)) 6#32
  k0_pay89 v (k0_pay87 (k0_pay76 a b) (k0_pay77 a b) 29#32) (k0_pay88 (k0_pay76 a b) (k0_pay77 a b) 29#32)

/-- The same of the third 128 lanes. -/
def lane2 (i : grid0.Coords) (v : Vec F S2048x128 .f32) : FVec F S1x2048x128 .f32 :=
  have a := k0_pay105 (k0_pay93 (k0_pay1 i)) (k0_pay94 (k0_pay1 i)) (k0_pay95 (k0_pay1 i))
  have b := k0_pay106 (k0_pay93 (k0_pay1 i)) (k0_pay94 (k0_pay1 i)) (k0_pay95 (k0_pay1 i))
  k0_pay131 v (k0_pay129 (k0_pay118 a b k0_pay107) (k0_pay119 a b k0_pay107)) (k0_pay130 (k0_pay118 a b k0_pay107) (k0_pay119 a b k0_pay107))

/-- What point `i` stores in the `l`-th 128 lanes. -/
def lane (l : ℕ) (i : grid0.Coords) (v : Vec F S2048x128 .f32) : FVec F S1x2048x128 .f32 :=
  match l with
  | 0 => lane0 i v
  | 1 => lane1 i v
  | _ => lane2 i v

/-- The `p`-th grid point's coordinates. -/
def pointAt (p : ℕ) : grid0.Coords := grid0.coords (⟨p % 8, Nat.mod_lt _ (by decide)⟩ : Fin 8)

/-- The `p`-th block of 2048 rows of the argument. -/
def blockAt (X : FVec F S16384x128 .f32) (p : ℕ) : Vec F S2048x128 .f32 :=
  fun y => X (ix2 (⟨(2048 * p + (y 0).val) % 16384, Nat.mod_lt _ (by decide)⟩ : Fin 16384) (y 1))

/-- A result's row reduced to a row of a block. -/
def inBlock (j : S65536x128.Idx) : S2048x128.Idx :=
  ix2 (⟨(j 0).val / 4 % 2048, Nat.mod_lt _ (by decide)⟩ : Fin 2048) (j 1)

/-- A block's index as one of a 1 × 2048 × 128 payload. -/
def lead (y : S2048x128.Idx) : S1x2048x128.Idx := ix3 (0 : Fin 1) (y 0) (y 1)

/-- The first result: row `r` is row `r / 4` of the argument. -/
def result0 (X : FVec F S16384x128 .f32) : FVec F S65536x128 .f32 :=
  fun j => blockAt X ((j 0).val / 8192) (inBlock j)

/-- The second: row `r` is row `r / 4` of the argument where `r` is a multiple of 4, and what the kernel masked it to otherwise. -/
def result1 (X : FVec F S16384x128 .f32) : FVec F S65536x128 .f32 :=
  fun j => if (j 0).val % 4 = 0 then blockAt X ((j 0).val / 8192) (inBlock j)
    else lane ((j 0).val % 4 - 1) (pointAt ((j 0).val / 8192)) (blockAt X ((j 0).val / 8192)) (lead (inBlock j))

/-- What the first ring's slot holds while point `p`'s copies read it. -/
def ringX (X : FVec F S16384x128 .f32) (p : ℕ) : FVec F S3x2048x128 .f32 :=
  fun j => blockAt X p (ix2 (j 1) (j 2))

/-- What the second ring's slot holds while point `p`'s copies read it. -/
def ringV (X : FVec F S16384x128 .f32) (p : ℕ) : FVec F S3x2048x384 .f32 :=
  fun j => lane ((j 2).val / 128) (pointAt p) (blockAt X p)
    (lead (ix2 (j 1) (⟨(j 2).val % 128, Nat.mod_lt _ (by decide)⟩ : Fin 128)))

end Cert.KernelIdeal.Hand

end
-- ==== Proof.State.lean ====
/-
  What the kernel holds between grid points, and the step each of its copies and waits takes.

  Point `p` uses slot `p % 3` of the two rings and of the semaphores. While its eight copies are in flight (`Flight p`),
  the slot's semaphore carries a batch of eight deliveries `deliv p`: each hands back one plane of a result, written, and the
  part of the slot it read. When they have been waited for the slot is `Free`.
-/
module

public import proofs.«01_k».proof.Proof.Values
public import proofs.«01_k».proof.Proof.Gen.KernelIdeal.Launch
public import Idealize.ShloMosaic.Lib.Batch
public import Idealize.ShloMosaic.Lib.Tactic
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The semaphore of slot `k`. -/
def ringSem (k : Fin 3) : DmaSem sig := ⟨2 + k.val, by have := k.isLt; show 2 + k.val < 5; omega⟩
/-- Point `p`'s slot. -/
abbrev slotOf (p : ℕ) : Fin 3 := ⟨p % 3, Nat.mod_lt _ (by decide)⟩

theorem sem_eq (off : Fin 1 → ℕ) (hb) (k : Fin 3) (ho : off = ![k.val]) :
    ((cc0_scratch2.slice (Rect.unit (s := S3) off S1.size hb)).squeeze S_ squeezes_S1_S_).sem = ringSem k := by
  subst ho
  refine Fin.ext ?_
  show 2 + (S3.rowMajor ((Rect.unit (s := S3) ![k.val] S1.size hb).emb (Shape.reshapeEquiv _ _))).val = 2 + k.val
  rw [Shape.rowMajor_val_one]
  show 2 + (k.val + 1 * _) = 2 + k.val
  have h : ∀ z : Fin 1, z.val = 0 := fun z => by omega
  exact (congrArg (fun w => 2 + (k.val + 1 * w)) (h _)).trans (by omega)

/-- What one copy credits its semaphore. -/
abbrev unit1 : ℕ := (rowsView xoM (Memref.isWhole_whole _) ![0, 0, 0] (by decide)).view.dmaCredit

/-- A result, and a ring, on a set of its elements. -/
abbrev ptXo (c : Dev nD) (S : Finset S65536x128.Idx) (f : FVec F S65536x128 .f32) : sProp 𝕄 :=
  (c : Thread nD τ).loc main_v0_0 ↦[S]{fullShare} f
abbrev ptXv (c : Dev nD) (S : Finset S65536x128.Idx) (f : FVec F S65536x128 .f32) : sProp 𝕄 :=
  (c : Thread nD τ).loc main_v0_1 ↦[S]{fullShare} f
abbrev ptSx (c : Dev nD) (S : Finset S3x2048x128.Idx) (q : PosShare TreeShare) (f : FVec F S3x2048x128 .f32) : sProp 𝕄 :=
  (c : Thread nD τ).loc cc0_scratch0 ↦[S]{q} f
abbrev ptSv (c : Dev nD) (S : Finset S3x2048x384.Idx) (f : FVec F S3x2048x384 .f32) : sProp 𝕄 :=
  (c : Thread nD τ).loc cc0_scratch1 ↦[S]{fullShare} f

/-- The share of the first ring's slot that the `n`-th of its five readers borrows. -/
abbrev readerShare (n : Fin 5) : PosShare TreeShare := Transfers.shareTok fullShare 5 n

/-- What point `p`'s copies deliver. -/
def delivX (X : FVec F S16384x128 .f32) (c : Dev nD) (p : ℕ) (m : ℕ) (n : Fin 5) : sProp 𝕄 :=
  iprop(ptXo c (rowsOf p m) (result0 X) ∗ ptSx c (slotSet (p % 3)) (readerShare n) (ringX X p))
def delivU (X : FVec F S16384x128 .f32) (c : Dev nD) (p : ℕ) : sProp 𝕄 :=
  iprop(ptXv c (rowsOf p 0) (result1 X) ∗ ptSx c (slotSet (p % 3)) (readerShare 4) (ringX X p))
def delivV (X : FVec F S16384x128 .f32) (c : Dev nD) (p : ℕ) (l : ℕ) : sProp 𝕄 :=
  iprop(ptXv c (rowsOf p (l + 1)) (result1 X) ∗ ptSv c (laneSet (p % 3) l) (ringV X p))

def deliv (X : FVec F S16384x128 .f32) (c : Dev nD) (p : ℕ) : Fin 8 → sProp 𝕄
  | 0 => delivX X c p 0 0 | 1 => delivX X c p 1 1 | 2 => delivX X c p 2 2 | 3 => delivX X c p 3 3
  | 4 => delivU X c p | 5 => delivV X c p 0 | 6 => delivV X c p 1 | 7 => delivV X c p 2

instance deliv_storable (X : FVec F S16384x128 .f32) (c : Dev nD) (p : ℕ) (n : Fin 8) :
    Storable (upEmb : UEmb _ 𝕄) (deliv X c p n) := by
  fin_cases n <;> simp only [deliv, delivX, delivU, delivV] <;> infer_instance

/-- Slot `p % 3`'s semaphore with `j` of point `p`'s copies started and `u` of their units waited for. -/
abbrev batch (X : FVec F S16384x128 .f32) (c : Dev nD) (p : ℕ) (j u : ℕ) : sProp 𝕄 :=
  Transfers.Batch (Lvl := ℕ) (countersEmb (U := Pipeline.UD sig nD τ)) (c : Thread nD τ) (.dma (ringSem (slotOf p))) () unit1 (deliv X c p) j u

theorem unit1_pos : 0 < unit1 := by decide +kernel

/-! ## One copy, one wait -/

section steps
variable (X : FVec F S16384x128 .f32) (c : Dev nD) (p : ℕ)

/-- Starting copy `j`: from its source's elements, its destination's, and the batch with `j` started. -/
theorem issue {sp : Space} {src : Memref sig .tc sp S2048x128 .f32} {dst : Memref sig .tc .hbm S2048x128 .f32} {sem : DmaSem sig}
    {h1 : src.view.WordExact} {h2 : dst.view.WordExact} {h3 : (DmaTarget.here dst : DmaTarget nD τ sig (c : Thread nD τ).2 .hbm S2048x128 .f32).Typed sp (.dma sem)}
    (hs : sem = ringSem (slotOf p)) (hN : dst.view.dmaCredit = unit1) {q : PosShare TreeShare}
    {fs : Buf (Elt F) (src.view.loc (c : Thread nD τ))} {fd : Buf (Elt F) (dst.view.loc (c : Thread nD τ))} {j : ℕ} (hj : j < 8)
    (hD : iprop((dst.view.loc (c : Thread nD τ) ↦[dst.view.set]{fullShare}
          (dst.view.write (Elt F) fd (ReadAs.same.apply (src.view.read (Elt F) fs)) Finset.univ))
        ∗ (src.view.loc (c : Thread nD τ) ↦[src.view.set]{q} fs)) ⊢ deliv X c p ⟨j, hj⟩) {Q : PUnit → sProp 𝕄} :
    iprop((src.view.loc (c : Thread nD τ) ↦[src.view.set]{q} fs) ∗ (dst.view.loc (c : Thread nD τ) ↦[dst.view.set]{fullShare} fd)
        ∗ batch X c p j 0 ∗ (batch X c p (j + 1) 0 -∗ Q ⟨⟩))
      ⊢ wp frame (wpE (defs₀ (F := F)) Variants.none c none) Set.univ
          (Prog.lift (.enqueueDma src (.here dst) (.dma sem) h1 h2 h3)) Q := by
  subst hs
  iintro ⟨Hs, Hd, HB, Hk⟩
  iapply (Transfers.wp_dmaBatch (c := (c : Thread nD τ)) (src := src) (dst := dst) (via := ReadAs.same) (sm := .dma (ringSem (slotOf p)))
    (countersEmb (U := Pipeline.UD sig nD τ)) Variants.none none (D := deliv X c p) () unit1 hN (Finset.Subset.refl _) hj (Nat.zero_le _) hD) $$ [Hs Hd HB]
  · isplitl [Hs]; · iexact Hs
    isplitl [Hd]; · iexact Hd
    iexact HB
  iintro HB
  rw [wp_ret]
  imodintro
  iapply Hk $$ HB

/-- A plane of a result written with what a copy read is that plane of the result, when the two agree row by row. -/
theorem copied_eq {sp : Space} {src : Memref sig .tc sp S2048x128 .f32} {dst : Memref sig .tc .hbm S2048x128 .f32}
    {fs : Buf (Elt F) (src.view.loc (c : Thread nD τ))} {fd g : Buf (Elt F) (dst.view.loc (c : Thread nD τ))}
    (h : ∀ y, dst.view.read (Elt F) g y = src.view.read (Elt F) fs y) :
    (dst.view.loc (c : Thread nD τ) ↦[dst.view.set]{fullShare}
          (dst.view.write (Elt F) fd (ReadAs.same.apply (src.view.read (Elt F) fs)) Finset.univ) : sProp 𝕄)
      = dst.view.loc (c : Thread nD τ) ↦[dst.view.set]{fullShare} g := by
  refine pointsTo_congr fun j hj => ?_
  obtain ⟨y, -, rfl⟩ := Finset.mem_map.mp hj
  rw [View.write_emb_of_mem (h := Finset.mem_univ y)]
  have h' := h y
  rw [View.read_apply] at h'
  show cast _ (src.view.read (Elt F) fs y) = _
  rw [← h', cast_cast, cast_eq]

/-- Where row `y` of the plane with residue `m` of point `p` lies: its point, its row in the block, its residue. -/
theorem rows_coords (m : ℕ) (hm : m < 4) (y : S2048x128.Idx) (j : S65536x128.Idx)
    (h0 : (j 0).val = 4 * (2048 * p + (y 0).val) + m) (h1 : (j 1).val = (y 1).val) :
    (j 0).val / 8192 = p ∧ inBlock j = y ∧ (j 0).val % 4 = m := by
  have hy : (y 0).val < 2048 := (y 0).isLt
  refine ⟨by omega, ?_, by omega⟩
  funext a
  match a with
  | ⟨0, _⟩ => exact Fin.ext (show (j 0).val / 4 % 2048 = (y 0).val by omega)
  | ⟨1, _⟩ => exact Fin.ext h1

/-- The first result on such a row is the block's row. -/
theorem result0_row (m : ℕ) (hm : m < 4) (y : S2048x128.Idx) (j : S65536x128.Idx)
    (h0 : (j 0).val = 4 * (2048 * p + (y 0).val) + m) (h1 : (j 1).val = (y 1).val) : result0 X j = blockAt X p y := by
  obtain ⟨e0, e1, -⟩ := rows_coords p m hm y j h0 h1
  rw [result0, e0, e1]

/-- The second result on a row with residue 0 is the block's row, -/
theorem result1_row_zero (y : S2048x128.Idx) (j : S65536x128.Idx)
    (h0 : (j 0).val = 4 * (2048 * p + (y 0).val) + 0) (h1 : (j 1).val = (y 1).val) : result1 X j = blockAt X p y := by
  obtain ⟨e0, e1, e2⟩ := rows_coords p 0 (by omega) y j h0 h1
  rw [result1, if_pos e2, e0, e1]

/-- and on a row with residue `l + 1` it is what the kernel stored in the `l`-th lanes. -/
theorem result1_row_succ (l : ℕ) (hl : l < 3) (y : S2048x128.Idx) (j : S65536x128.Idx)
    (h0 : (j 0).val = 4 * (2048 * p + (y 0).val) + (l + 1)) (h1 : (j 1).val = (y 1).val) :
    result1 X j = lane l (pointAt p) (blockAt X p) (lead y) := by
  obtain ⟨e0, e1, e2⟩ := rows_coords p (l + 1) (by omega) y j h0 h1
  rw [result1, if_neg (by omega), e0, e1, e2, Nat.add_sub_cancel]

/-- Starting the copy of the slot of the first ring into the rows of the first result with residue `m`. -/
theorem issueX {off : Fin 3 → ℕ} {hb} {off' : Fin 3 → ℕ} {hb'} {sem : DmaSem sig} {h1 h2 h3} (m : Fin 4) (hp : p < 8)
    (hs : sem = ringSem (slotOf p)) (ho : off = ![p % 3, 0, 0]) (ho' : off' = ![2048 * p, m.val, 0])
    {fd : FVec F S65536x128 .f32} {Q : PUnit → sProp 𝕄} :
    iprop(ptSx c (slotSet (p % 3)) (readerShare m.castSucc) (ringX X p) ∗ ptXo c (rowsOf p m.val) fd
        ∗ batch X c p m.val 0 ∗ (batch X c p (m.val + 1) 0 -∗ Q ⟨⟩))
      ⊢ wp frame (wpE (defs₀ (F := F)) Variants.none c none) Set.univ
          (Prog.lift (.enqueueDma (slotX sxM off hb) (.here (rowsView xoM (Memref.isWhole_whole _) off' hb')) (.dma sem) h1 h2 h3)) Q := by
  have eD : (rowsView xoM (Memref.isWhole_whole _) off' hb').view.set = rowsOf p m.val :=
    (set_rows xoM _ off' hb' p m.val ho').trans (Finset.map_refl)
  have eS := set_slotX off hb (p % 3) ho
  refine BIBase.Entails.trans ?_ (issue (F := F) X c p (src := slotX sxM off hb) (dst := rowsView xoM (Memref.isWhole_whole _) off' hb')
    (fs := ringX X p) (fd := fd) (q := readerShare m.castSucc) hs rfl (j := m.val) (by omega) ?_)
  · rw [eD, eS]
  · rw [copied_eq (F := F) c (g := result0 X)]
    · rw [eD, eS]
      refine Entails.of_eq ?_
      fin_cases m <;> rfl
    · intro y
      rw [View.read_apply, View.read_apply]
      have hy : (y 0).val < 2048 := (y 0).isLt
      have hm := m.isLt
      rw [emb_rows xoM _ off' hb' (2048 * p) m.val ho' y (by omega), emb_slotX sxM off hb (p % 3) (by omega) ho y]
      exact result0_row X p m.val hm y _ rfl rfl

/-- Starting the copy of the slot of the first ring into the rows of the second result with residue 0. -/
theorem issueU {off : Fin 3 → ℕ} {hb} {off' : Fin 3 → ℕ} {hb'} {sem : DmaSem sig} {h1 h2 h3} (hp : p < 8)
    (hs : sem = ringSem (slotOf p)) (ho : off = ![p % 3, 0, 0]) (ho' : off' = ![2048 * p, 0, 0])
    {fd : FVec F S65536x128 .f32} {Q : PUnit → sProp 𝕄} :
    iprop(ptSx c (slotSet (p % 3)) (readerShare 4) (ringX X p) ∗ ptXv c (rowsOf p 0) fd
        ∗ batch X c p 4 0 ∗ (batch X c p 5 0 -∗ Q ⟨⟩))
      ⊢ wp frame (wpE (defs₀ (F := F)) Variants.none c none) Set.univ
          (Prog.lift (.enqueueDma (slotX sxM off hb) (.here (rowsView xvM (Memref.isWhole_whole _) off' hb')) (.dma sem) h1 h2 h3)) Q := by
  have eD : (rowsView xvM (Memref.isWhole_whole _) off' hb').view.set = rowsOf p 0 :=
    (set_rows xvM _ off' hb' p 0 ho').trans (Finset.map_refl)
  have eS := set_slotX off hb (p % 3) ho
  refine BIBase.Entails.trans ?_ (issue (F := F) X c p (src := slotX sxM off hb) (dst := rowsView xvM (Memref.isWhole_whole _) off' hb')
    (fs := ringX X p) (fd := fd) (q := readerShare 4) hs rfl (j := 4) (by omega) ?_)
  · rw [eD, eS]
  · rw [copied_eq (F := F) c (g := result1 X)]
    · rw [eD, eS]
      exact Entails.of_eq rfl
    · intro y
      rw [View.read_apply, View.read_apply]
      have hy : (y 0).val < 2048 := (y 0).isLt
      rw [emb_rows xvM _ off' hb' (2048 * p) 0 ho' y (by omega), emb_slotX sxM off hb (p % 3) (by omega) ho y]
      exact result1_row_zero X p y _ rfl rfl

/-- Starting the copy of the `l`-th lanes of the slot of the second ring into the rows of the second result with residue `l + 1`. -/
theorem issueV {off : Fin 3 → ℕ} {hb} {off' : Fin 3 → ℕ} {hb'} {sem : DmaSem sig} {h1 h2 h3} (l : Fin 3) (hp : p < 8)
    (hs : sem = ringSem (slotOf p)) (ho : off = ![p % 3, 0, 128 * l.val]) (ho' : off' = ![2048 * p, l.val + 1, 0])
    {fd : FVec F S65536x128 .f32} {Q : PUnit → sProp 𝕄} :
    iprop(ptSv c (laneSet (p % 3) l.val) (ringV X p) ∗ ptXv c (rowsOf p (l.val + 1)) fd
        ∗ batch X c p (l.val + 5) 0 ∗ (batch X c p (l.val + 5 + 1) 0 -∗ Q ⟨⟩))
      ⊢ wp frame (wpE (defs₀ (F := F)) Variants.none c none) Set.univ
          (Prog.lift (.enqueueDma (slotV svM off hb) (.here (rowsView xvM (Memref.isWhole_whole _) off' hb')) (.dma sem) h1 h2 h3)) Q := by
  have eD : (rowsView xvM (Memref.isWhole_whole _) off' hb').view.set = rowsOf p (l.val + 1) :=
    (set_rows xvM _ off' hb' p (l.val + 1) ho').trans (Finset.map_refl)
  have eS := set_slotV off hb (p % 3) l.val ho
  refine BIBase.Entails.trans ?_ (issue (F := F) X c p (src := slotV svM off hb) (dst := rowsView xvM (Memref.isWhole_whole _) off' hb')
    (fs := ringV X p) (fd := fd) (q := fullShare) hs rfl (j := l.val + 5) (by omega) ?_)
  · rw [eD, eS]
  · rw [copied_eq (F := F) c (g := result1 X)]
    · rw [eD, eS]
      refine Entails.of_eq ?_
      fin_cases l <;> rfl
    · intro y
      rw [View.read_apply, View.read_apply]
      have hy : (y 0).val < 2048 := (y 0).isLt
      have hy1 : (y 1).val < 128 := (y 1).isLt
      have hl := l.isLt
      rw [emb_rows xvM _ off' hb' (2048 * p) (l.val + 1) ho' y (by omega), emb_slotV svM off hb (p % 3) l.val (by omega) ho y (by omega)]
      refine (result1_row_succ X p l.val hl y _ rfl rfl).trans ?_
      show _ = lane ((128 * l.val + (y 1).val) / 128) (pointAt p) (blockAt X p) (lead (ix2 (y 0) ⟨(128 * l.val + (y 1).val) % 128, _⟩))
      have e1 : (128 * l.val + (y 1).val) / 128 = l.val := by omega
      have e2 : (ix2 (y 0) (⟨(128 * l.val + (y 1).val) % 128, Nat.mod_lt _ (by decide)⟩ : Fin 128) : S2048x128.Idx) = y := by
        funext a
        match a with
        | ⟨0, _⟩ => rfl
        | ⟨1, _⟩ => exact Fin.ext (show (128 * l.val + (y 1).val) % 128 = (y 1).val by omega)
      rw [e1]
      exact congrArg (fun z => lane l.val (pointAt p) (blockAt X p) (lead z)) e2.symm

theorem units_lt (k : ℕ) (hk : k < 7) : unit1 * k + unit1 < unit1 * 8 := by
  rw [← Nat.mul_succ]; exact (Nat.mul_lt_mul_left unit1_pos).mpr (by omega)

/-- One of the first seven waits on point `p`'s copies. -/
theorem waitStep {sp sp' : Space} {s s' : Shape} {e' : EltTy} {src : Memref sig .tc sp' s' e'} {dst : Memref sig .tc sp s .f32} {sem : DmaSem sig}
    {h1 : src.view.WordExact} {h2 : dst.view.WordExact} (k : ℕ)
    (hs : sem = ringSem (slotOf p)) (hN : dst.view.dmaCredit = unit1) (hk : k < 7) {Q : PUnit → sProp 𝕄} :
    iprop(batch X c p 8 (unit1 * k) ∗ (∃ W, owes (c : Thread nD τ) 0 W)
        ∗ (batch X c p 8 (unit1 * (k + 1)) -∗ (∃ W, owes (c : Thread nD τ) 0 W) -∗ Q ⟨⟩))
      ⊢ wp frame (wpE (defs₀ (F := F)) Variants.none c none) Set.univ (Prog.lift (.waitDma2 sem src dst h1 h2)) Q := by
  subst hs
  iintro ⟨HB, ⟨%W, HW⟩, Hk⟩
  iapply (Transfers.wp_waitBatch (c := (c : Thread nD τ)) (srcw := src) (dstw := dst)
    (countersEmb (U := Pipeline.UD sig nD τ)) Variants.none none (D := deliv X c p) () hN
    (u := unit1 * k) (units_lt k hk) (W := W)) $$ [HB HW]
  · isplitl [HB]; · iexact HB
    iexact HW
  iintro ⟨HB, HW⟩
  rw [wp_ret]
  imodintro
  iapply Hk $$ [HB]
  · rw [Nat.mul_succ]; iexact HB
  iexists _; iexact HW

/-- The last wait hands back all that the copies delivered, and the semaphore at zero. -/
theorem waitLast {sp sp' : Space} {s s' : Shape} {e' : EltTy} {src : Memref sig .tc sp' s' e'} {dst : Memref sig .tc sp s .f32} {sem : DmaSem sig}
    {h1 : src.view.WordExact} {h2 : dst.view.WordExact}
    (hs : sem = ringSem (slotOf p)) (hN : dst.view.dmaCredit = unit1) {Q : PUnit → sProp 𝕄} :
    iprop(batch X c p 8 (unit1 * 7) ∗ (∃ W, owes (c : Thread nD τ) 0 W)
        ∗ (bigSep Finset.univ (deliv X c p) -∗ semVal ((c : Thread nD τ), SemLoc.dma (ringSem (slotOf p))) 0
            -∗ (∃ W, owes (c : Thread nD τ) 0 W) -∗ Q ⟨⟩))
      ⊢ wp frame (wpE (defs₀ (F := F)) Variants.none c none) Set.univ (Prog.lift (.waitDma2 sem src dst h1 h2)) Q := by
  subst hs
  iintro ⟨HB, ⟨%W, HW⟩, Hk⟩
  iapply (Transfers.wp_waitBatchLast (c := (c : Thread nD τ)) (srcw := src) (dstw := dst)
    (countersEmb (U := Pipeline.UD sig nD τ)) Variants.none none (D := deliv X c p) () hN unit1_pos
    (u := unit1 * 7) (by omega) (W := W)) $$ [HB HW]
  · isplitl [HB]; · iexact HB
    iexact HW
  iintro ⟨HD, Hv, HW⟩
  rw [wp_ret]
  imodintro
  iapply Hk $$ HD Hv
  iexists _; iexact HW

end steps

end Cert.KernelIdeal.Hand

end
-- ==== Proof.Slots.lean ====
/-
  Taking a slot and a point's rows apart for the copies, and putting together what the copies deliver.
-/
module

public import proofs.«01_k».proof.Proof.State

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The rows of a result that come from point `p`; those of the points up to and below a bound. -/
def pointRows (p : ℕ) : Finset S65536x128.Idx := Finset.univ.filter fun j => (j 0).val / 8192 = p
def rowsFrom (t : ℕ) : Finset S65536x128.Idx := Finset.univ.filter fun j => t ≤ (j 0).val / 8192
def rowsBelow (t : ℕ) : Finset S65536x128.Idx := Finset.univ.filter fun j => (j 0).val / 8192 < t

/-- A buffer's elements on a set cut in four, and in three. -/
theorem pt_four {ℓ : Loc nD τ sig} {q : PosShare TreeShare} {f : Buf (Elt F) ℓ} {S : Finset (Idx ℓ)} (K : Fin 4 → Finset (Idx ℓ))
    (hd : ∀ a b, a ≠ b → Disjoint (K a) (K b)) (hu : Finset.univ.biUnion K = S) :
    (ℓ ↦[S]{q} f : sProp 𝕄) = iprop((ℓ ↦[K 0]{q} f) ∗ (ℓ ↦[K 1]{q} f) ∗ (ℓ ↦[K 2]{q} f) ∗ (ℓ ↦[K 3]{q} f)) := by
  rw [← hu, pointsTo_biUnion _ _ fun a _ b _ h => hd a b h, BI.bigSep_eq_bigSepL_of_eq [0, 1, 2, 3] (by decide) (by decide)]; rfl

theorem pt_three {ℓ : Loc nD τ sig} {q : PosShare TreeShare} {f : Buf (Elt F) ℓ} {S : Finset (Idx ℓ)} (K : Fin 3 → Finset (Idx ℓ))
    (hd : ∀ a b, a ≠ b → Disjoint (K a) (K b)) (hu : Finset.univ.biUnion K = S) :
    (ℓ ↦[S]{q} f : sProp 𝕄) = iprop((ℓ ↦[K 0]{q} f) ∗ (ℓ ↦[K 1]{q} f) ∗ (ℓ ↦[K 2]{q} f)) := by
  rw [← hu, pointsTo_biUnion _ _ fun a _ b _ h => hd a b h, BI.bigSep_eq_bigSepL_of_eq [0, 1, 2] (by decide) (by decide)]; rfl

theorem rowsOf_disjoint (p : ℕ) (a b : Fin 4) (h : a ≠ b) : Disjoint (rowsOf p a.val) (rowsOf p b.val) :=
  Finset.disjoint_left.mpr fun j h1 h2 =>
    h (Fin.ext ((Finset.mem_filter.mp h1).2.2.symm.trans (Finset.mem_filter.mp h2).2.2))

theorem rowsOf_union (p : ℕ) : (Finset.univ : Finset (Fin 4)).biUnion (fun a => rowsOf p a.val) = pointRows p := by
  ext j
  simp only [Finset.mem_biUnion, Finset.mem_univ, true_and, rowsOf, pointRows, Finset.mem_filter]
  exact ⟨fun ⟨_, h, _⟩ => h, fun h => ⟨⟨(j 0).val % 4, Nat.mod_lt _ (by decide)⟩, h, rfl⟩⟩

theorem laneSet_disjoint (k : ℕ) (a b : Fin 3) (h : a ≠ b) : Disjoint (laneSet k a.val) (laneSet k b.val) :=
  Finset.disjoint_left.mpr fun j h1 h2 =>
    h (Fin.ext ((Finset.mem_filter.mp h1).2.2.symm.trans (Finset.mem_filter.mp h2).2.2))

theorem laneSet_union (k : ℕ) : (Finset.univ : Finset (Fin 3)).biUnion (fun a => laneSet k a.val) = slotSetV k := by
  ext j
  simp only [Finset.mem_biUnion, Finset.mem_univ, true_and, laneSet, slotSetV, Finset.mem_filter]
  have hj : (j 2).val < 384 := (j 2).isLt
  exact ⟨fun ⟨_, h, _⟩ => h, fun h => ⟨⟨(j 2).val / 128, by omega⟩, h, rfl⟩⟩

/-- A point's rows of a result are its four planes. -/
theorem xo_planes (c : Dev nD) (p : ℕ) (f : FVec F S65536x128 .f32) :
    ptXo c (pointRows p) f = iprop(ptXo c (rowsOf p 0) f ∗ ptXo c (rowsOf p 1) f ∗ ptXo c (rowsOf p 2) f ∗ ptXo c (rowsOf p 3) f) :=
  pt_four (ℓ := (c : Thread nD τ).loc main_v0_0) (fun a : Fin 4 => rowsOf p a.val) (rowsOf_disjoint p) (rowsOf_union p)
theorem xv_planes (c : Dev nD) (p : ℕ) (f : FVec F S65536x128 .f32) :
    ptXv c (pointRows p) f = iprop(ptXv c (rowsOf p 0) f ∗ ptXv c (rowsOf p 1) f ∗ ptXv c (rowsOf p 2) f ∗ ptXv c (rowsOf p 3) f) :=
  pt_four (ℓ := (c : Thread nD τ).loc main_v0_1) (fun a : Fin 4 => rowsOf p a.val) (rowsOf_disjoint p) (rowsOf_union p)
/-- A slot of the second ring is its three groups of lanes. -/
theorem sv_lanes (c : Dev nD) (k : ℕ) (f : FVec F S3x2048x384 .f32) :
    ptSv c (slotSetV k) f = iprop(ptSv c (laneSet k 0) f ∗ ptSv c (laneSet k 1) f ∗ ptSv c (laneSet k 2) f) :=
  pt_three (ℓ := (c : Thread nD τ).loc cc0_scratch1) (fun a : Fin 3 => laneSet k a.val) (laneSet_disjoint k) (laneSet_union k)

/-- What is left of a slot of the first ring when its five readers have taken their shares. -/
abbrev restShare : PosShare TreeShare := Transfers.shareDrop fullShare 5

/-- A slot of the first ring is the five readers' shares of it and the rest. -/
theorem sx_shares (c : Dev nD) (k : ℕ) (f : FVec F S3x2048x128 .f32) :
    ptSx c (slotSet k) fullShare f ⊣⊢ iprop(ptSx c (slotSet k) restShare f ∗ ptSx c (slotSet k) (readerShare 0) f
      ∗ ptSx c (slotSet k) (readerShare 1) f ∗ ptSx c (slotSet k) (readerShare 2) f ∗ ptSx c (slotSet k) (readerShare 3) f
      ∗ ptSx c (slotSet k) (readerShare 4) f) := by
  have h := Transfers.pointsTo_toks (Val := Elt F) (Ix := Unit) (Name := ℕ) (U := Pipeline.UD sig nD τ) (Lvl := ℕ)
    (ℓ := (c : Thread nD τ).loc cc0_scratch0) (S := slotSet k) (f := f) fullShare 5
  rw [BI.bigSep_eq_bigSepL_of_eq (S := (Finset.univ : Finset (Fin 5))) [0, 1, 2, 3, 4] (by decide) (by decide)] at h
  exact h

/-- The eight deliveries, one by one. -/
theorem deliv_chain (X : FVec F S16384x128 .f32) (c : Dev nD) (p : ℕ) :
    (bigSep Finset.univ (deliv X c p) : sProp 𝕄)
      = iprop(delivX X c p 0 0 ∗ delivX X c p 1 1 ∗ delivX X c p 2 2 ∗ delivX X c p 3 3
        ∗ delivU X c p ∗ delivV X c p 0 ∗ delivV X c p 1 ∗ delivV X c p 2) := by
  rw [BI.bigSep_eq_bigSepL_of_eq [0, 1, 2, 3, 4, 5, 6, 7] (by decide) (by decide)]; rfl

/-- A slot nobody is using. -/
def free (c : Dev nD) (k : Fin 3) : sProp 𝕄 :=
  iprop(semVal ((c : Thread nD τ), SemLoc.dma (ringSem k)) 0 ∗ (∃ f, ptSx c (slotSet k.val) fullShare f) ∗ (∃ f, ptSv c (slotSetV k.val) f))

/-- A slot whose eight copies, of point `p`, are in flight. -/
def flight (X : FVec F S16384x128 .f32) (c : Dev nD) (p : ℕ) : sProp 𝕄 :=
  iprop(batch X c p 8 0 ∗ ptSx c (slotSet (p % 3)) restShare (ringX X p))

/-- When all have arrived the slot is free and point `p`'s rows of both results are written. -/
theorem collect (X : FVec F S16384x128 .f32) (c : Dev nD) (p : ℕ) :
    iprop(bigSep Finset.univ (deliv X c p) ∗ semVal ((c : Thread nD τ), SemLoc.dma (ringSem (slotOf p))) 0
        ∗ ptSx c (slotSet (p % 3)) restShare (ringX X p))
      ⊢ iprop(free c (slotOf p) ∗ ptXo c (pointRows p) (result0 X) ∗ ptXv c (pointRows p) (result1 X)) := by
  rw [deliv_chain, xo_planes, xv_planes]
  unfold delivX delivU delivV free
  iintro ⟨⟨⟨H0, T0⟩, ⟨H1, T1⟩, ⟨H2, T2⟩, ⟨H3, T3⟩, ⟨G0, T4⟩, ⟨G1, L0⟩, ⟨G2, L1⟩, ⟨G3, L2⟩⟩, Hv, Hr⟩
  isplitl [Hv T0 T1 T2 T3 T4 L0 L1 L2 Hr]
  · isplitl [Hv]; · iexact Hv
    isplitl [T0 T1 T2 T3 T4 Hr]
    · iexists ringX X p
      iapply (sx_shares c (p % 3) (ringX X p)).2
      isplitl [Hr]; · iexact Hr
      isplitl [T0]; · iexact T0
      isplitl [T1]; · iexact T1
      isplitl [T2]; · iexact T2
      isplitl [T3]; · iexact T3
      iexact T4
    iexists ringV X p
    rw [sv_lanes]
    isplitl [L0]; · iexact L0
    isplitl [L1]; · iexact L1
    iexact L2
  isplitl [H0 H1 H2 H3]
  · isplitl [H0]; · iexact H0
    isplitl [H1]; · iexact H1
    isplitl [H2]; · iexact H2
    iexact H3
  isplitl [G0]; · iexact G0
  isplitl [G1]; · iexact G1
  isplitl [G2]; · iexact G2
  iexact G3

theorem rowsBelow_succ (t : ℕ) : rowsBelow (t + 1) = rowsBelow t ∪ pointRows t := by
  ext j
  simp only [rowsBelow, pointRows, Finset.mem_union, Finset.mem_filter, Finset.mem_univ, true_and]; omega
theorem rowsBelow_disjoint (t : ℕ) : Disjoint (rowsBelow t) (pointRows t) :=
  Finset.disjoint_left.mpr fun j h1 h2 => by
    have := (Finset.mem_filter.mp h1).2; have := (Finset.mem_filter.mp h2).2; omega
theorem rowsFrom_succ (t : ℕ) : rowsFrom t = pointRows t ∪ rowsFrom (t + 1) := by
  ext j
  simp only [rowsFrom, pointRows, Finset.mem_union, Finset.mem_filter, Finset.mem_univ, true_and]; omega
theorem rowsFrom_disjoint (t : ℕ) : Disjoint (pointRows t) (rowsFrom (t + 1)) :=
  Finset.disjoint_left.mpr fun j h1 h2 => by
    have := (Finset.mem_filter.mp h1).2; have := (Finset.mem_filter.mp h2).2; omega

/-- The rows written so far grow by a point's rows, and those still to be written shrink by them. -/
theorem xo_below (c : Dev nD) (t : ℕ) (f : FVec F S65536x128 .f32) :
    iprop(ptXo c (rowsBelow t) f ∗ ptXo c (pointRows t) f) ⊢ ptXo c (rowsBelow (t + 1)) f := by
  rw [rowsBelow_succ]; exact (pointsTo_union (rowsBelow_disjoint t)).2
theorem xv_below (c : Dev nD) (t : ℕ) (f : FVec F S65536x128 .f32) :
    iprop(ptXv c (rowsBelow t) f ∗ ptXv c (pointRows t) f) ⊢ ptXv c (rowsBelow (t + 1)) f := by
  rw [rowsBelow_succ]; exact (pointsTo_union (rowsBelow_disjoint t)).2
theorem xo_from (c : Dev nD) (t : ℕ) (f : FVec F S65536x128 .f32) :
    ptXo c (rowsFrom t) f ⊢ iprop(ptXo c (pointRows t) f ∗ ptXo c (rowsFrom (t + 1)) f) := by
  rw [rowsFrom_succ]; exact (pointsTo_union (rowsFrom_disjoint t)).1
theorem xv_from (c : Dev nD) (t : ℕ) (f : FVec F S65536x128 .f32) :
    ptXv c (rowsFrom t) f ⊢ iprop(ptXv c (pointRows t) f ∗ ptXv c (rowsFrom (t + 1)) f) := by
  rw [rowsFrom_succ]; exact (pointsTo_union (rowsFrom_disjoint t)).1

end Cert.KernelIdeal.Hand

end
-- ==== Proof.Waits.lean ====
/-
  The kernel's groups of eight waits: the one at the head of a grid point, for the point three before, and the last point's three.
-/
module

public import proofs.«01_k».proof.Proof.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (X : FVec F S16384x128 .f32) (c : Dev nD) (p : ℕ) (i : grid0.Coords) (M1 : Memref sig .tc .vmem S2048x128 .f32) (hM1 : M1.IsWhole)

/-- One of the first seven waits, when it names rows of the first result, and of the second. -/
theorem waitX {sp' : Space} {s' : Shape} {e' : EltTy} {src : Memref sig .tc sp' s' e'} {off hb} {sem : DmaSem sig} {h1 h2} (k : ℕ)
    (hs : sem = ringSem (slotOf p)) (hk : k < 7) {Q : PUnit → sProp 𝕄} :
    iprop(batch X c p 8 (unit1 * k) ∗ (∃ W, owes (c : Thread nD τ) 0 W))
      ⊢ iprop((batch X c p 8 (unit1 * (k + 1)) -∗ (∃ W, owes (c : Thread nD τ) 0 W) -∗ Q ⟨⟩)
        -∗ wp frame (wpE (defs₀ (F := F)) Variants.none c none) Set.univ
          (Prog.lift (.waitDma2 sem src (rowsView xoM (Memref.isWhole_whole _) off hb) h1 h2)) Q) := by
  have hN : (rowsView xoM (Memref.isWhole_whole _) off hb).view.dmaCredit = unit1 := rfl
  iintro ⟨HB, HW⟩ Hk
  iapply (waitStep (F := F) (src := src) (dst := rowsView xoM (Memref.isWhole_whole _) off hb) (h1 := h1) (h2 := h2) X c p k hs hN hk)
  isplitl [HB]; · iexact HB
  isplitl [HW]; · iexact HW
  iexact Hk
theorem waitV {sp' : Space} {s' : Shape} {e' : EltTy} {src : Memref sig .tc sp' s' e'} {off hb} {sem : DmaSem sig} {h1 h2} (k : ℕ)
    (hs : sem = ringSem (slotOf p)) (hk : k < 7) {Q : PUnit → sProp 𝕄} :
    iprop(batch X c p 8 (unit1 * k) ∗ (∃ W, owes (c : Thread nD τ) 0 W))
      ⊢ iprop((batch X c p 8 (unit1 * (k + 1)) -∗ (∃ W, owes (c : Thread nD τ) 0 W) -∗ Q ⟨⟩)
        -∗ wp frame (wpE (defs₀ (F := F)) Variants.none c none) Set.univ
          (Prog.lift (.waitDma2 sem src (rowsView xvM (Memref.isWhole_whole _) off hb) h1 h2)) Q) := by
  have hN : (rowsView xvM (Memref.isWhole_whole _) off hb).view.dmaCredit = unit1 := rfl
  iintro ⟨HB, HW⟩ Hk
  iapply (waitStep (F := F) (src := src) (dst := rowsView xvM (Memref.isWhole_whole _) off hb) (h1 := h1) (h2 := h2) X c p k hs hN hk)
  isplitl [HB]; · iexact HB
  isplitl [HW]; · iexact HW
  iexact Hk
/-- The last wait, which names rows of the second result: the slot is free and point `p`'s rows of both results are written. -/
theorem waitEnd {sp' : Space} {s' : Shape} {e' : EltTy} {src : Memref sig .tc sp' s' e'} {off hb} {sem : DmaSem sig} {h1 h2}
    (hs : sem = ringSem (slotOf p)) {Q : PUnit → sProp 𝕄} :
    iprop(batch X c p 8 (unit1 * 7) ∗ (∃ W, owes (c : Thread nD τ) 0 W) ∗ ptSx c (slotSet (p % 3)) restShare (ringX X p))
      ⊢ iprop((free c (slotOf p) -∗ ptXo c (pointRows p) (result0 X) -∗ ptXv c (pointRows p) (result1 X)
          -∗ (∃ W, owes (c : Thread nD τ) 0 W) -∗ Q ⟨⟩)
        -∗ wp frame (wpE (defs₀ (F := F)) Variants.none c none) Set.univ
          (Prog.lift (.waitDma2 sem src (rowsView xvM (Memref.isWhole_whole _) off hb) h1 h2)) Q) := by
  have hN : (rowsView xvM (Memref.isWhole_whole _) off hb).view.dmaCredit = unit1 := rfl
  iintro ⟨HB, HW, Hr⟩ Hk
  iapply (waitLast (F := F) (src := src) (dst := rowsView xvM (Memref.isWhole_whole _) off hb) (h1 := h1) (h2 := h2) X c p hs hN)
  isplitl [HB]; · iexact HB
  isplitl [HW]; · iexact HW
  iintro HD Hv HW
  ihave H := (collect X c p) $$ [HD Hv Hr]
  · isplitl [HD]; · iexact HD
    isplitl [Hv]; · iexact Hv
    iexact Hr
  icases H with ⟨Hf, Ho, Hw⟩
  iapply Hk $$ Hf Ho Hw HW

/-- The first four of a point's eight waits: they name rows of the first result. -/
theorem waitsHead {sp' : Space} {s' : Shape} {e' : EltTy} {src0 src1 src2 src3 : Memref sig .tc sp' s' e'} {off0 off1 off2 off3 hb0 hb1 hb2 hb3}
    {sem : DmaSem sig} {g0 h0 g1 h1 g2 h2 g3 h3} (hs : sem = ringSem (slotOf p)) {Q : PUnit → sProp 𝕄} :
    iprop(batch X c p 8 (unit1 * 0) ∗ (∃ W, owes (c : Thread nD τ) 0 W))
      ⊢ iprop((batch X c p 8 (unit1 * 4) -∗ (∃ W, owes (c : Thread nD τ) 0 W) -∗ Q ⟨⟩)
      -∗ wp frame (wpE (defs₀ (F := F)) Variants.none c none) Set.univ
        (Prog.lift (.waitDma2 sem src0 (rowsView xoM (Memref.isWhole_whole _) off0 hb0) g0 h0)) fun _ =>
          wp frame (wpE (defs₀ (F := F)) Variants.none c none) Set.univ
        (Prog.lift (.waitDma2 sem src1 (rowsView xoM (Memref.isWhole_whole _) off1 hb1) g1 h1)) fun _ =>
          wp frame (wpE (defs₀ (F := F)) Variants.none c none) Set.univ
        (Prog.lift (.waitDma2 sem src2 (rowsView xoM (Memref.isWhole_whole _) off2 hb2) g2 h2)) fun _ =>
          wp frame (wpE (defs₀ (F := F)) Variants.none c none) Set.univ
        (Prog.lift (.waitDma2 sem src3 (rowsView xoM (Memref.isWhole_whole _) off3 hb3) g3 h3)) Q) := by
  iintro ⟨HB, HW⟩ Hk
  iapply (waitX X c p 0 hs (by omega)) $$ [HB HW]
  · isplitl [HB] <;> iassumption
  iintro HB HW
  iapply (waitX X c p 1 hs (by omega)) $$ [HB HW]
  · isplitl [HB] <;> iassumption
  iintro HB HW
  iapply (waitX X c p 2 hs (by omega)) $$ [HB HW]
  · isplitl [HB] <;> iassumption
  iintro HB HW
  iapply (waitX X c p 3 hs (by omega)) $$ [HB HW]
  · isplitl [HB] <;> iassumption
  iintro HB HW
  iapply Hk $$ HB HW

/-- The last four of a point's eight waits: they name rows of the second result, and give back the point's slot and rows. -/
theorem waitsTail {sp0 sp' : Space} {s0 s' : Shape} {e0 e' : EltTy} {src0 : Memref sig .tc sp0 s0 e0} {src1 src2 src3 : Memref sig .tc sp' s' e'}
    {off0 off1 off2 off3 hb0 hb1 hb2 hb3}
    {sem : DmaSem sig} {g0 h0 g1 h1 g2 h2 g3 h3} (hs : sem = ringSem (slotOf p)) {Q : PUnit → sProp 𝕄} :
    iprop(batch X c p 8 (unit1 * 4) ∗ (∃ W, owes (c : Thread nD τ) 0 W) ∗ ptSx c (slotSet (p % 3)) restShare (ringX X p))
      ⊢ iprop((free c (slotOf p) -∗ ptXo c (pointRows p) (result0 X) -∗ ptXv c (pointRows p) (result1 X)
          -∗ (∃ W, owes (c : Thread nD τ) 0 W) -∗ Q ⟨⟩)
      -∗ wp frame (wpE (defs₀ (F := F)) Variants.none c none) Set.univ
        (Prog.lift (.waitDma2 sem src0 (rowsView xvM (Memref.isWhole_whole _) off0 hb0) g0 h0)) fun _ =>
          wp frame (wpE (defs₀ (F := F)) Variants.none c none) Set.univ
        (Prog.lift (.waitDma2 sem src1 (rowsView xvM (Memref.isWhole_whole _) off1 hb1) g1 h1)) fun _ =>
          wp frame (wpE (defs₀ (F := F)) Variants.none c none) Set.univ
        (Prog.lift (.waitDma2 sem src2 (rowsView xvM (Memref.isWhole_whole _) off2 hb2) g2 h2)) fun _ =>
          wp frame (wpE (defs₀ (F := F)) Variants.none c none) Set.univ
        (Prog.lift (.waitDma2 sem src3 (rowsView xvM (Memref.isWhole_whole _) off3 hb3) g3 h3)) Q) := by
  iintro ⟨HB, HW, Hr⟩ Hk
  iapply (waitV X c p 4 hs (by omega)) $$ [HB HW]
  · isplitl [HB] <;> iassumption
  iintro HB HW
  iapply (waitV X c p 5 hs (by omega)) $$ [HB HW]
  · isplitl [HB] <;> iassumption
  iintro HB HW
  iapply (waitV X c p 6 hs (by omega)) $$ [HB HW]
  · isplitl [HB] <;> iassumption
  iintro HB HW
  iapply (waitEnd X c p hs) $$ [HB HW Hr]
  · isplitl [HB]; · iexact HB
    isplitl [HW]; · iexact HW
    iexact Hr
  iexact Hk

/-- The first four of the eight waits at the head of a grid point. -/
theorem wp_part1 (a0 : BitVec 32) (hc : k0_cond1 i = 1#1) (ho : k0_off1 i = ![p % 3]) {Q : PUnit → sProp 𝕄} :
    iprop(batch X c p 8 (unit1 * 0) ∗ (∃ W, owes (c : Thread nD τ) 0 W))
      ⊢ iprop((batch X c p 8 (unit1 * 4) -∗ (∃ W, owes (c : Thread nD τ) 0 W) -∗ Q ⟨⟩)
      -∗ wp frame (wpE (defs₀ (F := F)) Variants.none c none) Set.univ
          (k0_part1 i M1 hM1 xoM (Memref.isWhole_whole _) xvM (Memref.isWhole_whole _) sxM (Memref.isWhole_whole _) svM (Memref.isWhole_whole _)
            cc0_scratch2 a0 hc) Q) := by
  simp only [k0_part1_eq_skeleton]; unfold k0_part1_skel
  simp only [wp_bind, wp_pure]
  iintro H Hk
  iapply (waitsHead X c p (sem_eq (k0_off1 i) (k0_off1_inb i hc) (slotOf p) ho)) $$ H
  iintro HB HW
  imodintro
  iapply Hk $$ HB HW

/-- The first four of the last point's waits for the point two before. -/
theorem wp_part2 (a0 : BitVec 32) (hc hc') (ho : k0_off23 i = ![p % 3]) {Q : PUnit → sProp 𝕄} :
    iprop(batch X c p 8 (unit1 * 0) ∗ (∃ W, owes (c : Thread nD τ) 0 W))
      ⊢ iprop((batch X c p 8 (unit1 * 4) -∗ (∃ W, owes (c : Thread nD τ) 0 W) -∗ Q ⟨⟩)
      -∗ wp frame (wpE (defs₀ (F := F)) Variants.none c none) Set.univ
          (k0_part2 i M1 hM1 xoM (Memref.isWhole_whole _) xvM (Memref.isWhole_whole _) sxM (Memref.isWhole_whole _) svM (Memref.isWhole_whole _)
            cc0_scratch2 a0 hc hc') Q) := by
  simp only [k0_part2_eq_skeleton]; unfold k0_part2_skel
  simp only [wp_bind, wp_pure]
  iintro H Hk
  iapply (waitsHead X c p (sem_eq (k0_off23 i) (k0_off23_inb i hc hc') (slotOf p) ho)) $$ H
  iintro HB HW
  imodintro
  iapply Hk $$ HB HW

/-- The first four of the last point's waits for the point before. -/
theorem wp_part3 (a0 : BitVec 32) (hc hc') (ho : k0_off32 i = ![p % 3]) {Q : PUnit → sProp 𝕄} :
    iprop(batch X c p 8 (unit1 * 0) ∗ (∃ W, owes (c : Thread nD τ) 0 W))
      ⊢ iprop((batch X c p 8 (unit1 * 4) -∗ (∃ W, owes (c : Thread nD τ) 0 W) -∗ Q ⟨⟩)
      -∗ wp frame (wpE (defs₀ (F := F)) Variants.none c none) Set.univ
          (k0_part3 i M1 hM1 xoM (Memref.isWhole_whole _) xvM (Memref.isWhole_whole _) sxM (Memref.isWhole_whole _) svM (Memref.isWhole_whole _)
            cc0_scratch2 a0 hc hc') Q) := by
  simp only [k0_part3_eq_skeleton]; unfold k0_part3_skel
  simp only [wp_bind, wp_pure]
  iintro H Hk
  iapply (waitsHead X c p (sem_eq (k0_off32 i) (k0_off32_inb i hc hc') (slotOf p) ho)) $$ H
  iintro HB HW
  imodintro
  iapply Hk $$ HB HW

/-- The last point's waits for the two points before it, and the first three of those for itself. -/
theorem wp_part4 (a0 : BitVec 32) (hc) (hc3 : k0_cond3 i = 1#1) (hc4 : k0_cond4 i = 1#1) (p2 p1 : ℕ) (ho2 : k0_off23 i = ![p2 % 3])
    (ho1 : k0_off32 i = ![p1 % 3]) (ho : k0_off41 i = ![p % 3]) {Q : PUnit → sProp 𝕄} :
    iprop(flight X c p2 ∗ flight X c p1 ∗ batch X c p 8 (unit1 * 0) ∗ (∃ W, owes (c : Thread nD τ) 0 W))
      ⊢ iprop((free c (slotOf p2) -∗ ptXo c (pointRows p2) (result0 X) -∗ ptXv c (pointRows p2) (result1 X)
          -∗ free c (slotOf p1) -∗ ptXo c (pointRows p1) (result0 X) -∗ ptXv c (pointRows p1) (result1 X)
          -∗ batch X c p 8 (unit1 * 3) -∗ (∃ W, owes (c : Thread nD τ) 0 W) -∗ Q ⟨⟩)
      -∗ wp frame (wpE (defs₀ (F := F)) Variants.none c none) Set.univ
          (k0_part4 i M1 hM1 xoM (Memref.isWhole_whole _) xvM (Memref.isWhole_whole _) sxM (Memref.isWhole_whole _) svM (Memref.isWhole_whole _)
            cc0_scratch2 a0 hc) Q) := by
  have hs := sem_eq (k0_off41 i) (k0_off41_inb i hc) (slotOf p) ho
  simp only [k0_part4_eq_skeleton]; unfold k0_part4_skel flight
  rw [dif_pos hc3, dif_pos hc4]
  simp only [wp_bind, wp_pure]
  iintro ⟨⟨HB2, Hr2⟩, ⟨HB1, Hr1⟩, HB, HW⟩ Hk
  iapply (wp_part2 X c p2 i M1 hM1 a0 hc hc3 ho2) $$ [HB2 HW]
  · isplitl [HB2] <;> iassumption
  iintro HB2 HW
  iapply (waitsTail X c p2 (sem_eq (k0_off23 i) (k0_off23_inb i hc hc3) (slotOf p2) ho2)) $$ [HB2 HW Hr2]
  · isplitl [HB2]; · iexact HB2
    isplitl [HW]; · iexact HW
    iexact Hr2
  iintro Hf2 Ho2 Hv2 HW
  iapply (wp_part3 X c p1 i M1 hM1 a0 hc hc4 ho1) $$ [HB1 HW]
  · isplitl [HB1] <;> iassumption
  iintro HB1 HW
  iapply (waitsTail X c p1 (sem_eq (k0_off32 i) (k0_off32_inb i hc hc4) (slotOf p1) ho1)) $$ [HB1 HW Hr1]
  · isplitl [HB1]; · iexact HB1
    isplitl [HW]; · iexact HW
    iexact Hr1
  iintro Hf1 Ho1 Hv1 HW
  iapply (waitX X c p 0 hs (by omega)) $$ [HB HW]
  · isplitl [HB] <;> iassumption
  iintro HB HW
  iapply (waitX X c p 1 hs (by omega)) $$ [HB HW]
  · isplitl [HB] <;> iassumption
  iintro HB HW
  iapply (waitX X c p 2 hs (by omega)) $$ [HB HW]
  · isplitl [HB] <;> iassumption
  iintro HB HW
  imodintro
  iapply Hk $$ Hf2 Ho2 Hv2 Hf1 Ho1 Hv1 HB HW

end Cert.KernelIdeal.Hand

end
-- ==== Proof.Stores.lean ====
/-
  The kernel's loads and stores: its block of the argument, and the slots of the two rings it fills.
-/
module

public import proofs.«01_k».proof.Proof.Slots
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (X : FVec F S16384x128 .f32) (c : Dev nD) (p : ℕ)

/-- Loading the whole of the staged block. -/
theorem loadStage {M1 : Memref sig .tc .vmem S2048x128 .f32} {hb hl} {d : Vec F S2048x128 .f32} {Q : Vec F S2048x128 .f32 → sProp 𝕄} :
    owns (c : Thread nD τ) M1 fullShare d
      ⊢ iprop((owns (c : Thread nD τ) M1 fullShare d -∗ Q d) -∗ wp frame (wpE (defs₀ (F := F)) Variants.none c none) Set.univ
        (Prog.lift (.load M1 (Rect.unit (s := S2048x128) ![0, 0] S2048x128.size hb).toLoadRect hl)) Q) := by
  unfold owns
  iintro ⟨%f, %hf, H⟩ Hk
  iapply (wp_load (c := (c : Thread nD τ)) (m := M1) Variants.none none Set.univ (View.setOn_subset_set _ _)) $$ H
  iintro H
  rw [View.readAt_full, hf, wp_ret]
  imodintro
  iapply Hk
  iexists f
  isplitr; · ipureintro; exact hf
  iexact H

/-- Loading a slot of the first ring, and 128 lanes of one of the second, changes nothing. -/
theorem loadX {off hb hl} (k : ℕ) (ho : off = ![k, 0, 0]) {f : FVec F S3x2048x128 .f32} {Q : Vec F S1x2048x128 .f32 → sProp 𝕄} :
    ptSx c (slotSet k) fullShare f
      ⊢ iprop((∀ w, ptSx c (slotSet k) fullShare f -∗ Q w) -∗ wp frame (wpE (defs₀ (F := F)) Variants.none c none) Set.univ
        (Prog.lift (.load sxM (Rect.unit (s := S3x2048x128) off S1x2048x128.size hb).toLoadRect hl)) Q) := by
  iintro H Hk
  iapply (wp_load (c := (c : Thread nD τ)) (m := sxM) Variants.none none Set.univ
    (S := slotSet k) (r := (Rect.unit (s := S3x2048x128) off S1x2048x128.size hb).toLoadRect) (by
      refine Finset.Subset.trans (Finset.subset_of_eq Finset.map_refl) (Finset.subset_of_eq (mem_slotX_rect off hb k ho)))) $$ H
  iintro H
  rw [wp_ret]
  imodintro
  iapply Hk $$ H

theorem loadV {off hb hl} (k l : ℕ) (ho : off = ![k, 0, 128 * l]) {f : FVec F S3x2048x384 .f32} {Q : Vec F S1x2048x128 .f32 → sProp 𝕄} :
    ptSv c (laneSet k l) f
      ⊢ iprop((∀ w, ptSv c (laneSet k l) f -∗ Q w) -∗ wp frame (wpE (defs₀ (F := F)) Variants.none c none) Set.univ
        (Prog.lift (.load svM (Rect.unit (s := S3x2048x384) off S1x2048x128.size hb).toLoadRect hl)) Q) := by
  iintro H Hk
  iapply (wp_load (c := (c : Thread nD τ)) (m := svM) Variants.none none Set.univ
    (S := laneSet k l) (r := (Rect.unit (s := S3x2048x384) off S1x2048x128.size hb).toLoadRect) (by
      refine Finset.Subset.trans (Finset.subset_of_eq Finset.map_refl) (Finset.subset_of_eq (mem_slotV_rect off hb k l ho)))) $$ H
  iintro H
  rw [wp_ret]
  imodintro
  iapply Hk $$ H

/-- A 1 × 2048 × 128 index as one of 2048 × 128. -/
theorem squeeze_drop (h : S1x2048x128.numel = S2048x128.numel) (y : S1x2048x128.Idx) :
    Shape.reshapeEquiv h y = (ix2 (y 1) (y 2) : S2048x128.Idx) :=
  Shape.reshapeEquiv_eq_of_rowMajor h (by
    rw [Shape.rowMajor_val_three, Shape.rowMajor_val_two]
    have h0 : (y 0).val < 1 := (y 0).isLt
    show (y 1).val * 128 + (y 2).val = ((y 0).val * 2048 + (y 1).val) * 128 + (y 2).val
    omega)

/-- Storing a block in a slot of the first ring: the slot then holds what point `p`'s copies are to read. -/
theorem storeX {off hb hs hm} (k : ℕ) (ho : off = ![k, 0, 0]) {f : FVec F S3x2048x128 .f32} {Q : PUnit → sProp 𝕄} :
    ptSx c (slotSet k) fullShare f
      ⊢ iprop((ptSx c (slotSet k) fullShare (ringX X p) -∗ Q ⟨⟩) -∗ wp frame (wpE (defs₀ (F := F)) Variants.none c none) Set.univ
        (Prog.lift (.store sxM (Rect.unit (s := S3x2048x128) off S1x2048x128.size hb) (k0_pay2 (blockAt X p)) Finset.univ hs hm)) Q) := by
  have eS : (sxM.access (Rect.unit (s := S3x2048x128) off S1x2048x128.size hb)).setOn Finset.univ = slotSet k :=
    (View.set_slice_whole _ _).trans (mem_slotX_rect off hb k ho)
  have eV : (((sxM.access (Rect.unit (s := S3x2048x128) off S1x2048x128.size hb)).loc (c : Thread nD τ)) ↦[slotSet k]{fullShare}
        ((sxM.access (Rect.unit (s := S3x2048x128) off S1x2048x128.size hb)).write (Elt F) f (k0_pay2 (blockAt X p)) Finset.univ) : sProp 𝕄)
      = ptSx c (slotSet k) fullShare (ringX X p) := by
    refine pointsTo_congr fun j hj => ?_
    rw [← eS] at hj
    obtain ⟨y, -, rfl⟩ := Finset.mem_map.mp hj
    rw [View.write_emb_of_mem (h := Finset.mem_univ y)]
    subst ho
    show blockAt X p (Shape.reshapeEquiv _ y) = blockAt X p _
    rw [squeeze_drop]
    refine congrArg (blockAt X p) (funext fun a => match a with | ⟨0, _⟩ => Fin.ext ?_ | ⟨1, _⟩ => Fin.ext ?_)
    · show (y 1).val = 0 + 1 * (y 1).val; omega
    · show (y 2).val = 0 + 1 * (y 2).val; omega
  iintro H Hk
  iapply (wp_store (c := (c : Thread nD τ)) (m := sxM) Variants.none none Set.univ (S := slotSet k)
    (r := Rect.unit (s := S3x2048x128) off S1x2048x128.size hb) (f := f) (Finset.subset_of_eq eS)) $$ H
  iintro H
  ihave H := (BIBase.Entails.of_eq eV) $$ H
  rw [wp_ret]
  imodintro
  iapply Hk $$ H

/-- Storing the masked copy of a block in its 128 lanes of the second ring. -/
theorem storeV {off hb hs hm} (k l : ℕ) (ho : off = ![k, 0, 128 * l]) {pay : FVec F S1x2048x128 .f32}
    (hp : pay = lane l (pointAt p) (blockAt X p)) {f : FVec F S3x2048x384 .f32} {Q : PUnit → sProp 𝕄} :
    ptSv c (laneSet k l) f
      ⊢ iprop((ptSv c (laneSet k l) (ringV X p) -∗ Q ⟨⟩) -∗ wp frame (wpE (defs₀ (F := F)) Variants.none c none) Set.univ
        (Prog.lift (.store svM (Rect.unit (s := S3x2048x384) off S1x2048x128.size hb) pay Finset.univ hs hm)) Q) := by
  have eS : (svM.access (Rect.unit (s := S3x2048x384) off S1x2048x128.size hb)).setOn Finset.univ = laneSet k l :=
    (View.set_slice_whole _ _).trans (mem_slotV_rect off hb k l ho)
  have eV : (((svM.access (Rect.unit (s := S3x2048x384) off S1x2048x128.size hb)).loc (c : Thread nD τ)) ↦[laneSet k l]{fullShare}
        ((svM.access (Rect.unit (s := S3x2048x384) off S1x2048x128.size hb)).write (Elt F) f pay Finset.univ) : sProp 𝕄)
      = ptSv c (laneSet k l) (ringV X p) := by
    refine pointsTo_congr fun j hj => ?_
    rw [← eS] at hj
    obtain ⟨y, -, rfl⟩ := Finset.mem_map.mp hj
    rw [View.write_emb_of_mem (h := Finset.mem_univ y)]
    subst ho hp
    have h0 : (y 0).val < 1 := (y 0).isLt
    have hy : (y 2).val < 128 := (y 2).isLt
    have h1 : (128 * l + 1 * (y 2).val) / 128 = l := by omega
    show lane l (pointAt p) (blockAt X p) y = lane ((128 * l + 1 * (y 2).val) / 128) (pointAt p) (blockAt X p) _
    rw [h1]
    refine congrArg (lane l (pointAt p) (blockAt X p)) (Shape.idx3_ext ?_ ?_ ?_)
    · show (y 0).val = 0; omega
    · show (y 1).val = 0 + 1 * (y 1).val; omega
    · show (y 2).val = (128 * l + 1 * (y 2).val) % 128; omega
  iintro H Hk
  iapply (wp_store (c := (c : Thread nD τ)) (m := svM) Variants.none none Set.univ (S := laneSet k l)
    (r := Rect.unit (s := S3x2048x384) off S1x2048x128.size hb) (f := f) (Finset.subset_of_eq eS)) $$ H
  iintro H
  ihave H := (BIBase.Entails.of_eq eV) $$ H
  rw [wp_ret]
  imodintro
  iapply Hk $$ H

end Cert.KernelIdeal.Hand

end
-- ==== Proof.Body.lean ====
/-
  One grid point of the kernel: its waits, its loads and stores, its eight copies, and at the last point the waits for all that is still in flight.
-/
module

public import proofs.«01_k».proof.Proof.Waits
public import proofs.«01_k».proof.Proof.Stores

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (X : FVec F S16384x128 .f32) (c : Dev nD) (p : ℕ) (i : grid0.Coords) (M1 : Memref sig .tc .vmem S2048x128 .f32) (hM1 : M1.IsWhole)

/-- What a grid point knows of a slot before it uses it: it is free in the first three points, and later holds the copies of three points before. -/
def waitRes (t : ℕ) : sProp 𝕄 := if t < 3 then free c (slotOf t) else flight X c (t - 3)

/-- The two results, written with their values below point `t - 3`'s rows. -/
def written (t : ℕ) : sProp 𝕄 := iprop(ptXo c (rowsBelow (t - 3)) (result0 X) ∗ ptXv c (rowsBelow (t - 3)) (result1 X))

/-- The block's load, the slot's and the store of the block in the slot. -/
theorem fillX {d hb hl off hb' hl' hs hm} (ho : off = ![p % 3, 0, 0]) (hd : d = blockAt X p) {Q : Vec F S2048x128 .f32 → sProp 𝕄} :
    iprop(owns (c : Thread nD τ) M1 fullShare d ∗ (∃ f, ptSx c (slotSet (p % 3)) fullShare f))
      ⊢ iprop((owns (c : Thread nD τ) M1 fullShare d -∗ ptSx c (slotSet (p % 3)) fullShare (ringX X p) -∗ Q (blockAt X p))
      -∗ wp frame (wpE (defs₀ (F := F)) Variants.none c none) Set.univ
        (Prog.lift (.load M1 (Rect.unit (s := S2048x128) ![0, 0] S2048x128.size hb).toLoadRect hl)) fun v =>
          wp frame (wpE (defs₀ (F := F)) Variants.none c none) Set.univ
        (Prog.lift (.load sxM (Rect.unit (s := S3x2048x128) off S1x2048x128.size hb').toLoadRect hl')) fun _ =>
          wp frame (wpE (defs₀ (F := F)) Variants.none c none) Set.univ
        (Prog.lift (.store sxM (Rect.unit (s := S3x2048x128) off S1x2048x128.size hb') (k0_pay2 v) Finset.univ hs hm)) fun _ => Q v) := by
  subst hd
  iintro ⟨HM, %f, Hf⟩ Hk
  iapply loadStage $$ HM
  iintro HM
  iapply (loadX c (p % 3) ho) $$ Hf
  iintro %w Hf
  iapply (storeX X c p (p % 3) ho) $$ Hf
  iintro Hf
  iapply Hk $$ HM Hf

/-- The load and the store of one of the masked copies. -/
theorem fillV {off hb hl hs hm} (l : ℕ) (ho : off = ![p % 3, 0, 128 * l]) {pay : FVec F S1x2048x128 .f32}
    (hp : pay = lane l (pointAt p) (blockAt X p)) {f : FVec F S3x2048x384 .f32} {Q : PUnit → sProp 𝕄} :
    ptSv c (laneSet (p % 3) l) f
      ⊢ iprop((ptSv c (laneSet (p % 3) l) (ringV X p) -∗ Q ⟨⟩)
      -∗ wp frame (wpE (defs₀ (F := F)) Variants.none c none) Set.univ
        (Prog.lift (.load svM (Rect.unit (s := S3x2048x384) off S1x2048x128.size hb).toLoadRect hl)) fun _ =>
          wp frame (wpE (defs₀ (F := F)) Variants.none c none) Set.univ
        (Prog.lift (.store svM (Rect.unit (s := S3x2048x384) off S1x2048x128.size hb) pay Finset.univ hs hm)) Q) := by
  iintro Hf Hk
  iapply (loadV c (p % 3) l ho) $$ Hf
  iintro %w Hf
  iapply (storeV X c p (p % 3) l ho hp) $$ Hf
  iexact Hk

/-- The head of a grid point: the slot is made free, if need be by waiting for the copies of three points before, and filled with the block. -/
theorem wp_part5 (hi : i = pointAt p) (hp : p < 8) (hc : k0_cond1 i = 1#1 ↔ 3 ≤ p) {d : Vec F S2048x128 .f32} (hd : d = blockAt X p)
    {Q : _ → sProp 𝕄} :
    iprop(waitRes X c p ∗ written X c p ∗ owns (c : Thread nD τ) M1 fullShare d ∗ (∃ W, owes (c : Thread nD τ) 0 W))
      ⊢ iprop((semVal ((c : Thread nD τ), SemLoc.dma (ringSem (slotOf p))) 0 -∗ ptSx c (slotSet (p % 3)) fullShare (ringX X p)
          -∗ (∃ f, ptSv c (slotSetV (p % 3)) f) -∗ written X c (p + 1) -∗ owns (c : Thread nD τ) M1 fullShare d
          -∗ (∃ W, owes (c : Thread nD τ) 0 W)
          -∗ Q ⟨BitVec.ofNat 32 (i 0).val, Scalar.remsi (BitVec.ofNat 32 (i 0).val) 3#32, blockAt X p, k0_pay1 i, k0_pay6 i, k0_pay7 i, k0_pay8 i, k0_pay9⟩)
      -∗ wp frame (wpE (defs₀ (F := F)) Variants.none c none) Set.univ
          (k0_part5 i M1 hM1 xoM (Memref.isWhole_whole _) xvM (Memref.isWhole_whole _) sxM (Memref.isWhole_whole _) svM (Memref.isWhole_whole _)
            cc0_scratch2) Q) := by
  have hi0 : (i 0).val = p := by subst hi; interval_cases p <;> decide +kernel
  simp only [k0_part5_eq_skeleton]; unfold k0_part5_skel
  have ho10 : k0_off10 i = ![p % 3, 0, 0] := by rw [k0_off10_eq, hi0]
  unfold waitRes written
  by_cases h3 : 3 ≤ p
  · rw [if_neg (by omega), dif_pos (hc.mpr h3)]
    have ho1 : k0_off1 i = ![(p - 3) % 3] := by rw [k0_off1_eq, hi0]; congr 1; omega
    simp only [wp_bind, wp_pure]
    unfold flight
    iintro ⟨⟨HB, Hr⟩, ⟨Ho, Hv⟩, HM, HW⟩ Hk
    iapply (wp_part1 X c (p - 3) i M1 hM1 _ (hc.mpr h3) ho1) $$ [HB HW]
    · isplitl [HB] <;> iassumption
    iintro HB HW
    iapply (waitsTail X c (p - 3) (sem_eq (k0_off1 i) (k0_off1_inb i (hc.mpr h3)) (slotOf (p - 3)) ho1)) $$ [HB HW Hr]
    · isplitl [HB]; · iexact HB
      isplitl [HW]; · iexact HW
      iexact Hr
    iintro Hf Ho' Hv' HW
    have eF : (free c (slotOf (p - 3)) : sProp 𝕄) = free c (slotOf p) :=
      congrArg (free c) (Fin.ext (show (p - 3) % 3 = p % 3 by omega))
    have eR : p + 1 - 3 = p - 3 + 1 := by omega
    ihave Hf := (BIBase.Entails.of_eq eF) $$ Hf
    unfold free
    icases Hf with ⟨Hs, Hx, Hl⟩
    ihave Ho := (xo_below c (p - 3) (result0 X)) $$ [Ho Ho']
    · isplitl [Ho] <;> iassumption
    ihave Hv := (xv_below c (p - 3) (result1 X)) $$ [Hv Hv']
    · isplitl [Hv] <;> iassumption
    iapply (fillX X c p M1 ho10 hd) $$ [HM Hx]
    · isplitl [HM]; · iexact HM
      iexact Hx
    iintro HM Hx
    imodintro
    rw [eR]
    iapply Hk $$ Hs Hx Hl [Ho Hv] HM HW
    isplitl [Ho] <;> iassumption
  · rw [if_pos (by omega), dif_neg fun h => h3 (hc.mp h)]
    have eR : p + 1 - 3 = p - 3 := by omega
    simp only [wp_bind, wp_pure]
    unfold free
    iintro ⟨⟨Hs, Hx, Hl⟩, HR, HM, HW⟩ Hk
    iapply (fillX X c p M1 ho10 hd) $$ [HM Hx]
    · isplitl [HM]; · iexact HM
      iexact Hx
    iintro HM Hx
    imodintro
    rw [eR]
    iapply Hk $$ Hs Hx Hl HR HM HW

/-- Opening a point's batch of copies on its free semaphore. -/
theorem openBatch : (semVal ((c : Thread nD τ), SemLoc.dma (ringSem (slotOf p))) 0 : sProp 𝕄) ⊢ iprop(|={Set.univ}=> batch X c p 0 0) :=
  Transfers.batch_alloc' (countersEmb (U := Pipeline.UD sig nD τ)) (c : Thread nD τ) () unit1 (deliv X c p)

/-- Storing the third masked copy and starting the first two copies. -/
theorem wp_part17 (hi : i = pointAt p) (hp : p < 8) (a0 v0 : BitVec 32) (u w : IVec S2048x128 32)
    (hpay : k0_pay131 (blockAt X p) u w = lane 2 (pointAt p) (blockAt X p)) {f : FVec F S3x2048x384 .f32} {fd : FVec F S65536x128 .f32}
    {Q : PUnit → sProp 𝕄} :
    iprop(ptSv c (laneSet (p % 3) 2) f ∗ batch X c p 0 0
        ∗ ptSx c (slotSet (p % 3)) (readerShare 0) (ringX X p) ∗ ptSx c (slotSet (p % 3)) (readerShare 1) (ringX X p)
        ∗ ptXo c (rowsOf p 0) fd ∗ ptXo c (rowsOf p 1) fd)
      ⊢ iprop((ptSv c (laneSet (p % 3) 2) (ringV X p) -∗ batch X c p 2 0 -∗ Q ⟨⟩)
      -∗ wp frame (wpE (defs₀ (F := F)) Variants.none c none) Set.univ
          (k0_part17 i M1 hM1 xoM (Memref.isWhole_whole _) xvM (Memref.isWhole_whole _) sxM (Memref.isWhole_whole _) svM (Memref.isWhole_whole _)
            cc0_scratch2 a0 v0 (blockAt X p) u w) Q) := by
  have hi0 : (i 0).val = p := by subst hi; interval_cases p <;> decide +kernel
  have ho13 : k0_off13 i = ![p % 3, 0, 128 * 2] := by rw [k0_off13_eq, hi0]
  have ho16 : k0_off16 i = ![p % 3, 0, 0] := by rw [k0_off16_eq, hi0]
  have ho15 : k0_off15 i = ![2048 * p, (0 : Fin 4).val, 0] := by rw [k0_off15_eq, hi0]; rfl
  have ho17 : k0_off17 i = ![2048 * p, (1 : Fin 4).val, 0] := by rw [k0_off17_eq, hi0]; rfl
  have hs := sem_eq (k0_off14 i) (k0_off14_inb i) (slotOf p) (by rw [k0_off14_eq, hi0])
  simp only [k0_part17_eq_skeleton]; unfold k0_part17_skel
  simp only [wp_bind, wp_pure]
  iintro ⟨Hl, HB, H0, H1, Ho0, Ho1⟩ Hk
  iapply (fillV X c p 2 ho13 hpay) $$ Hl
  iintro Hl
  iapply (issueX X c p 0 hp hs ho16 ho15)
  isplitl [H0]; · iexact H0
  isplitl [Ho0]; · iexact Ho0
  isplitl [HB]; · iexact HB
  iintro HB
  iapply (issueX X c p 1 hp hs ho16 ho17)
  isplitl [H1]; · iexact H1
  isplitl [Ho1]; · iexact Ho1
  isplitl [HB]; · iexact HB
  iintro HB
  ihave HB := (BIBase.Entails.of_eq (show batch X c p ((1 : Fin 4).val + 1) 0 = batch X c p 2 0 from rfl)) $$ HB
  imodintro
  iapply Hk $$ Hl HB

/-- Starting the next five copies. -/
theorem wp_part18 (hi : i = pointAt p) (hp : p < 8) {fd fe : FVec F S65536x128 .f32} {Q : PUnit → sProp 𝕄} :
    iprop(batch X c p 2 0
        ∗ ptSx c (slotSet (p % 3)) (readerShare 2) (ringX X p) ∗ ptSx c (slotSet (p % 3)) (readerShare 3) (ringX X p)
        ∗ ptSx c (slotSet (p % 3)) (readerShare 4) (ringX X p) ∗ ptSv c (laneSet (p % 3) 0) (ringV X p) ∗ ptSv c (laneSet (p % 3) 1) (ringV X p)
        ∗ ptXo c (rowsOf p 2) fd ∗ ptXo c (rowsOf p 3) fd ∗ ptXv c (rowsOf p 0) fe ∗ ptXv c (rowsOf p 1) fe ∗ ptXv c (rowsOf p 2) fe)
      ⊢ iprop((batch X c p 7 0 -∗ Q ⟨⟩)
      -∗ wp frame (wpE (defs₀ (F := F)) Variants.none c none) Set.univ
          (k0_part18 i M1 hM1 xoM (Memref.isWhole_whole _) xvM (Memref.isWhole_whole _) sxM (Memref.isWhole_whole _) svM (Memref.isWhole_whole _)
            cc0_scratch2) Q) := by
  have hi0 : (i 0).val = p := by subst hi; interval_cases p <;> decide +kernel
  have ho16 : k0_off16 i = ![p % 3, 0, 0] := by rw [k0_off16_eq, hi0]
  have ho20 : k0_off20 i = ![p % 3, 0, 128 * (0 : Fin 3).val] := by rw [k0_off20_eq, hi0]; rfl
  have ho21 : k0_off21 i = ![p % 3, 0, 128 * (1 : Fin 3).val] := by rw [k0_off21_eq, hi0]; rfl
  have ho15 : k0_off15 i = ![2048 * p, 0, 0] := by rw [k0_off15_eq, hi0]
  have ho17 : k0_off17 i = ![2048 * p, (0 : Fin 3).val + 1, 0] := by rw [k0_off17_eq, hi0]; rfl
  have ho18 : k0_off18 i = ![2048 * p, (2 : Fin 4).val, 0] := by rw [k0_off18_eq, hi0]; rfl
  have ho18' : k0_off18 i = ![2048 * p, (1 : Fin 3).val + 1, 0] := by rw [k0_off18_eq, hi0]; rfl
  have ho19 : k0_off19 i = ![2048 * p, (3 : Fin 4).val, 0] := by rw [k0_off19_eq, hi0]; rfl
  have hs := sem_eq (k0_off14 i) (k0_off14_inb i) (slotOf p) (by rw [k0_off14_eq, hi0])
  simp only [k0_part18_eq_skeleton]; unfold k0_part18_skel
  simp only [wp_bind, wp_pure]
  iintro ⟨HB, H2, H3, H4, Hl0, Hl1, Ho2, Ho3, Hv0, Hv1, Hv2⟩ Hk
  iapply (issueX X c p 2 hp hs ho16 ho18)
  isplitl [H2]; · iexact H2
  isplitl [Ho2]; · iexact Ho2
  isplitl [HB]; · iexact HB
  iintro HB
  iapply (issueX X c p 3 hp hs ho16 ho19)
  isplitl [H3]; · iexact H3
  isplitl [Ho3]; · iexact Ho3
  isplitl [HB]; · iexact HB
  iintro HB
  iapply (issueU X c p hp hs ho16 ho15)
  isplitl [H4]; · iexact H4
  isplitl [Hv0]; · iexact Hv0
  isplitl [HB]; · iexact HB
  iintro HB
  iapply (issueV X c p 0 hp hs ho20 ho17)
  isplitl [Hl0]; · iexact Hl0
  isplitl [Hv1]; · iexact Hv1
  isplitl [HB]; · iexact HB
  iintro HB
  iapply (issueV X c p 1 hp hs ho21 ho18')
  isplitl [Hl1]; · iexact Hl1
  isplitl [Hv2]; · iexact Hv2
  isplitl [HB]; · iexact HB
  iintro HB
  ihave HB := (BIBase.Entails.of_eq (show batch X c p ((1 : Fin 3).val + 5 + 1) 0 = batch X c p 7 0 from rfl)) $$ HB
  imodintro
  iapply Hk $$ HB

/-- Storing the first masked copy. -/
theorem wp_part9 (hi : i = pointAt p) (hp : p < 8) (v0 : BitVec 32) (v12 u w : IVec S2048x128 32)
    (hpay : k0_pay47 (blockAt X p) u w = lane 0 (pointAt p) (blockAt X p)) {f : FVec F S3x2048x384 .f32} {Q : _ → sProp 𝕄} :
    ptSv c (laneSet (p % 3) 0) f
      ⊢ iprop((ptSv c (laneSet (p % 3) 0) (ringV X p) -∗ Q ⟨k0_pay51 v12, k0_pay52 v12, k0_pay53 v12, 6#32⟩)
      -∗ wp frame (wpE (defs₀ (F := F)) Variants.none c none) Set.univ
          (k0_part9 i M1 hM1 xoM (Memref.isWhole_whole _) xvM (Memref.isWhole_whole _) sxM (Memref.isWhole_whole _) svM (Memref.isWhole_whole _)
            cc0_scratch2 v0 (blockAt X p) v12 u w) Q) := by
  have hi0 : (i 0).val = p := by subst hi; interval_cases p <;> decide +kernel
  have ho11 : k0_off11 i = ![p % 3, 0, 128 * 0] := by rw [k0_off11_eq, hi0]
  simp only [k0_part9_eq_skeleton]; unfold k0_part9_skel
  simp only [wp_bind, wp_pure]
  iintro Hl Hk
  iapply (fillV X c p 0 ho11 hpay) $$ Hl
  iintro Hl
  imodintro
  iapply Hk $$ Hl

/-- Storing the second. -/
theorem wp_part13 (hi : i = pointAt p) (hp : p < 8) (v0 : BitVec 32) (v12 u w : IVec S2048x128 32)
    (hpay : k0_pay89 (blockAt X p) u w = lane 1 (pointAt p) (blockAt X p)) {f : FVec F S3x2048x384 .f32} {Q : _ → sProp 𝕄} :
    ptSv c (laneSet (p % 3) 1) f
      ⊢ iprop((ptSv c (laneSet (p % 3) 1) (ringV X p) -∗ Q ⟨k0_pay93 v12, k0_pay94 v12, k0_pay95 v12⟩)
      -∗ wp frame (wpE (defs₀ (F := F)) Variants.none c none) Set.univ
          (k0_part13 i M1 hM1 xoM (Memref.isWhole_whole _) xvM (Memref.isWhole_whole _) sxM (Memref.isWhole_whole _) svM (Memref.isWhole_whole _)
            cc0_scratch2 v0 (blockAt X p) v12 u w) Q) := by
  have hi0 : (i 0).val = p := by subst hi; interval_cases p <;> decide +kernel
  have ho12 : k0_off12 i = ![p % 3, 0, 128 * 1] := by rw [k0_off12_eq, hi0]
  simp only [k0_part13_eq_skeleton]; unfold k0_part13_skel
  simp only [wp_bind, wp_pure]
  iintro Hl Hk
  iapply (fillV X c p 1 ho12 hpay) $$ Hl
  iintro Hl
  imodintro
  iapply Hk $$ Hl

/-- What a grid point starts from: its slot and the two others, the rows not yet begun, and those written. After the last the slots are free and every row is written. -/
def pointState (f0 f1 : FVec F S65536x128 .f32) (t : ℕ) : sProp 𝕄 :=
  if t < 8 then iprop(waitRes X c t ∗ waitRes X c (t + 1) ∗ waitRes X c (t + 2) ∗ ptXo c (rowsFrom t) f0 ∗ ptXv c (rowsFrom t) f1 ∗ written X c t)
  else iprop(free c 0 ∗ free c 1 ∗ free c 2 ∗ ptXo c (rowsBelow 8) (result0 X) ∗ ptXv c (rowsBelow 8) (result1 X))

/-- A grid point. -/
theorem wp_body (hi : i = pointAt p) (hp : p < 8) (f0 f1 : FVec F S65536x128 .f32) {d : Vec F S2048x128 .f32} (hd : d = blockAt X p)
    {Q : PUnit → sProp 𝕄} :
    iprop(pointState X c f0 f1 p ∗ owns (c : Thread nD τ) M1 fullShare d ∗ (∃ W, owes (c : Thread nD τ) 0 W))
      ⊢ iprop((pointState X c f0 f1 (p + 1) -∗ owns (c : Thread nD τ) M1 fullShare d -∗ (∃ W, owes (c : Thread nD τ) 0 W) -∗ Q ⟨⟩)
      -∗ wp frame (wpE (defs₀ (F := F)) Variants.none c none) Set.univ
          (cc0__masker_body i M1 hM1 xoM (Memref.isWhole_whole _) xvM (Memref.isWhole_whole _) sxM (Memref.isWhole_whole _) svM (Memref.isWhole_whole _)
            cc0_scratch2) Q) := by
  have hi0 : (i 0).val = p := by subst hi; interval_cases p <;> decide +kernel
  have hc1 : k0_cond1 i = 1#1 ↔ 3 ≤ p := by subst hi; interval_cases p <;> decide +kernel
  have hc2 : k0_cond2 i = 1#1 ↔ p = 7 := by subst hi; interval_cases p <;> decide +kernel
  have ho22 : k0_off22 i = ![p % 3, 0, 128 * (2 : Fin 3).val] := by rw [k0_off22_eq, hi0]; rfl
  have ho19 : k0_off19 i = ![2048 * p, (2 : Fin 3).val + 1, 0] := by rw [k0_off19_eq, hi0]; rfl
  have hs := sem_eq (k0_off14 i) (k0_off14_inb i) (slotOf p) (by rw [k0_off14_eq, hi0])
  unfold pointState
  rw [if_pos hp]
  simp only [cc0__masker_body_eq_skeleton]; unfold cc0__masker_body_skel
  simp only [wp_bind, wp_pure]
  iintro ⟨⟨Hw, Hw1, Hw2, Ho, Hv, HR⟩, HM, HW⟩ Hk
  iapply (wp_part5 X c p i M1 hM1 hi hp hc1 hd) $$ [Hw HR HM HW]
  · isplitl [Hw]; · iexact Hw
    isplitl [HR]; · iexact HR
    isplitl [HM] <;> iassumption
  iintro Hs Hx ⟨%f, Hl⟩ HR HM HW
  simp only [k0_part6_eq_skeleton, k0_part6_skel, k0_part7_eq_skeleton, k0_part7_skel, k0_part8_eq_skeleton, k0_part8_skel, wp_pure, wp_bind]
  imodintro
  imodintro
  imodintro
  ihave Hl := (BIBase.Entails.of_eq (sv_lanes c (p % 3) f)) $$ Hl
  icases Hl with ⟨Hl0, Hl1, Hl2⟩
  iapply (wp_part9 X c p i M1 hM1 hi hp _ _ _ _ (by rw [hi]; rfl)) $$ Hl0
  iintro Hl0
  simp only [k0_part10_eq_skeleton, k0_part10_skel, k0_part11_eq_skeleton, k0_part11_skel, k0_part12_eq_skeleton, k0_part12_skel, wp_pure, wp_bind]
  imodintro
  imodintro
  imodintro
  iapply (wp_part13 X c p i M1 hM1 hi hp _ _ _ _ (by rw [hi]; rfl)) $$ Hl1
  iintro Hl1
  simp only [k0_part14_eq_skeleton, k0_part14_skel, k0_part15_eq_skeleton, k0_part15_skel, k0_part16_eq_skeleton, k0_part16_skel, wp_pure, wp_bind]
  imodintro
  imodintro
  imodintro
  imod (openBatch X c p) $$ Hs with HB
  ihave Hx := ((sx_shares c (p % 3) (ringX X p)).1) $$ Hx
  icases Hx with ⟨Hr, H0, H1, H2, H3, H4⟩
  ihave Ho := (xo_from c p f0) $$ Ho
  icases Ho with ⟨Hp, Ho⟩
  ihave Hp := (BIBase.Entails.of_eq (xo_planes c p f0)) $$ Hp
  icases Hp with ⟨Ho0, Ho1, Ho2, Ho3⟩
  ihave Hv := (xv_from c p f1) $$ Hv
  icases Hv with ⟨Hp, Hv⟩
  ihave Hp := (BIBase.Entails.of_eq (xv_planes c p f1)) $$ Hp
  icases Hp with ⟨Hv0, Hv1, Hv2, Hv3⟩
  iapply (wp_part17 X c p i M1 hM1 hi hp _ _ _ _ (by rw [hi]; rfl)) $$ [Hl2 HB H0 H1 Ho0 Ho1]
  · isplitl [Hl2]; · iexact Hl2
    isplitl [HB]; · iexact HB
    isplitl [H0]; · iexact H0
    isplitl [H1]; · iexact H1
    isplitl [Ho0] <;> iassumption
  iintro Hl2 HB
  iapply (wp_part18 X c p i M1 hM1 hi hp) $$ [HB H2 H3 H4 Hl0 Hl1 Ho2 Ho3 Hv0 Hv1 Hv2]
  · isplitl [HB]; · iexact HB
    isplitl [H2]; · iexact H2
    isplitl [H3]; · iexact H3
    isplitl [H4]; · iexact H4
    isplitl [Hl0]; · iexact Hl0
    isplitl [Hl1]; · iexact Hl1
    isplitl [Ho2]; · iexact Ho2
    isplitl [Ho3]; · iexact Ho3
    isplitl [Hv0]; · iexact Hv0
    isplitl [Hv1] <;> iassumption
  iintro HB
  iapply (issueV X c p 2 hp hs ho22 ho19)
  isplitl [Hl2]; · iexact Hl2
  isplitl [Hv3]; · iexact Hv3
  isplitl [HB]; · iexact HB
  iintro HB
  ihave HB := (BIBase.Entails.of_eq (show batch X c p ((2 : Fin 3).val + 5 + 1) 0 = batch X c p 8 0 from rfl)) $$ HB
  by_cases h7 : p < 7
  · rw [dif_neg (hc2.not.mpr (by omega)), if_pos (by omega)]
    simp only [wp_pure]
    imodintro
    iapply Hk $$ [Hw1 Hw2 HB Hr Ho Hv HR] HM HW
    isplitl [Hw1]; · iexact Hw1
    isplitl [Hw2]; · iexact Hw2
    isplitl [HB Hr]
    · rw [waitRes, if_neg (by omega), show p + 1 + 2 - 3 = p by omega]
      unfold flight
      isplitl [HB]; · iexact HB
      iexact Hr
    isplitl [Ho]; · iexact Ho
    isplitl [Hv]; · iexact Hv
    iexact HR
  · obtain rfl : p = 7 := by omega
    have hc3 : k0_cond3 i = 1#1 := by subst hi; decide +kernel
    have hc4 : k0_cond4 i = 1#1 := by subst hi; decide +kernel
    have ho23 : k0_off23 i = ![5 % 3] := by rw [k0_off23_eq, hi0]
    have ho32 : k0_off32 i = ![6 % 3] := by rw [k0_off32_eq, hi0]
    have ho41 : k0_off41 i = ![7 % 3] := by rw [k0_off41_eq, hi0]
    have hs' := sem_eq (k0_off41 i) (k0_off41_inb i (hc2.mpr rfl)) (slotOf 7) ho41
    rw [dif_pos (hc2.mpr rfl), if_neg (by omega)]
    simp only [wp_bind, wp_pure]
    ihave Hw1 := (BIBase.Entails.of_eq (show waitRes X c (7 + 1) = flight X c 5 from if_neg (by omega))) $$ Hw1
    ihave Hw2 := (BIBase.Entails.of_eq (show waitRes X c (7 + 2) = flight X c 6 from if_neg (by omega))) $$ Hw2
    iapply (wp_part4 X c 7 i M1 hM1 _ (hc2.mpr rfl) hc3 hc4 5 6 ho23 ho32 ho41) $$ [Hw1 Hw2 HB HW]
    · isplitl [Hw1]; · iexact Hw1
      isplitl [Hw2]; · iexact Hw2
      isplitl [HB] <;> iassumption
    iintro Hf5 Ho5 Hv5 Hf6 Ho6 Hv6 HB HW
    iapply (waitX X c 7 3 hs' (by omega)) $$ [HB HW]
    · isplitl [HB] <;> iassumption
    iintro HB HW
    iapply (waitsTail X c 7 hs') $$ [HB HW Hr]
    · isplitl [HB]; · iexact HB
      isplitl [HW]; · iexact HW
      iexact Hr
    iintro Hf7 Ho7 Hv7 HW
    unfold written
    icases HR with ⟨Hr0, Hr1⟩
    ihave Hr0 := (xo_below c 5 (result0 X)) $$ [Hr0 Ho5]
    · isplitl [Hr0] <;> iassumption
    ihave Hr0 := (xo_below c 6 (result0 X)) $$ [Hr0 Ho6]
    · isplitl [Hr0] <;> iassumption
    ihave Hr0 := (xo_below c 7 (result0 X)) $$ [Hr0 Ho7]
    · isplitl [Hr0] <;> iassumption
    ihave Hr1 := (xv_below c 5 (result1 X)) $$ [Hr1 Hv5]
    · isplitl [Hr1] <;> iassumption
    ihave Hr1 := (xv_below c 6 (result1 X)) $$ [Hr1 Hv6]
    · isplitl [Hr1] <;> iassumption
    ihave Hr1 := (xv_below c 7 (result1 X)) $$ [Hr1 Hv7]
    · isplitl [Hr1] <;> iassumption
    imodintro
    iclear Ho Hv
    iapply Hk $$ [Hf5 Hf6 Hf7 Hr0 Hr1] HM HW
    isplitl [Hf6]; · iexact Hf6
    isplitl [Hf7]; · iexact Hf7
    isplitl [Hf5]; · iexact Hf5
    isplitl [Hr0] <;> iassumption

end Cert.KernelIdeal.Hand

end
-- ==== Proof.Launch.lean ====
/-
  The launch: from the grid's points to the whole program's run. It ends with the argument as it was, with the two results at
  `result0` and `result1` of the argument, and with every semaphore counter at zero.
-/
module

public import proofs.«01_k».proof.Proof.Body
public import proofs.«01_k».proof.Proof.Gen.KernelIdeal.Frame
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The two results, which the kernel writes itself. -/
def R0 : Finset (Ref sig .tc) := {main_v0_0, main_v0_1}
theorem R0_sub : R0 ⊆ Pipeline.restRefs sig spec0 \ ∅ := by decide

theorem hmain' (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The argument, as launched, and what the buffers hold at the end. -/
abbrev arg (c : Dev nD) : FVec F S16384x128 .f32 := V m c main_arg0
def G (c : Dev nD) : (b : Ref sig .tc) → Buf (Elt F) ((c : Thread nD τ).loc b) :=
  Function.update (Function.update (V m c) main_v0_0 (result0 (arg m c))) main_v0_1 (result1 (arg m c))

/-- The ring's three semaphores. -/
abbrev osem0 : Fin 3 → SemLoc sig := ![SemLoc.dma 2, SemLoc.dma 3, SemLoc.dma 4]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (ringSem 0)) 0 ∗ semVal ((c : Thread nD τ), SemLoc.dma (ringSem 1)) 0
          ∗ semVal ((c : Thread nD τ), SemLoc.dma (ringSem 2)) 0) := by
  rw [Pipeline.ownSems0_eq_of_list c osem0 [0, 1, 2] (by decide) (by decide)]; rfl

theorem routed0_eq (c : Dev nD) (W : (b : Ref sig .tc) → Buf (Elt F) ((c : Thread nD τ).loc b)) :
    (Pipeline.routed R0 c W : sProp 𝕄) = iprop(ptXo c Finset.univ (W main_v0_0) ∗ ptXv c Finset.univ (W main_v0_1)) := by
  unfold Pipeline.routed; rw [BI.bigSep_eq_bigSepL_of_eq [main_v0_0, main_v0_1] (by decide) (by decide)]; rfl

theorem PhiDRG0_eq (c : Dev nD) (W : (c : Dev nD) → (b : Ref sig .tc) → Buf (Elt F) ((c : Thread nD τ).loc b)) :
    (Pipeline.ΦDRG osem0 spec0 ∅ R0 (V m) W c : sProp 𝕄)
      = iprop(iprop((∃ f, ptSx c Finset.univ fullShare f) ∗ (∃ f, ptSv c Finset.univ f))
          ∗ (∃ r, prngReg c r)
          ∗ iprop(semVal ((c : Thread nD τ), SemLoc.dma (ringSem 0)) 0 ∗ semVal ((c : Thread nD τ), SemLoc.dma (ringSem 1)) 0
            ∗ semVal ((c : Thread nD τ), SemLoc.dma (ringSem 2)) 0)
          ∗ emp
          ∗ iprop(ptXo c Finset.univ (W c main_v0_0) ∗ ptXv c Finset.univ (W c main_v0_1))) := by
  rw [Pipeline.ΦDRG_eq, scopedRest0_eq, ownSems00_eq, routed0_eq, bigSep_empty]; rfl

/-! ## The rings are their three slots -/

theorem slotSet_disjoint (a b : Fin 3) (h : a ≠ b) : Disjoint (slotSet a.val) (slotSet b.val) :=
  Finset.disjoint_left.mpr fun _ h1 h2 => h (Fin.ext ((Finset.mem_filter.mp h1).2.symm.trans (Finset.mem_filter.mp h2).2))
theorem slotSet_union : (Finset.univ : Finset (Fin 3)).biUnion (fun a => slotSet a.val) = Finset.univ := by
  ext j
  simp only [Finset.mem_biUnion, Finset.mem_univ, true_and, slotSet, Finset.mem_filter, iff_true]
  exact ⟨j 0, rfl⟩
theorem slotSetV_disjoint (a b : Fin 3) (h : a ≠ b) : Disjoint (slotSetV a.val) (slotSetV b.val) :=
  Finset.disjoint_left.mpr fun _ h1 h2 => h (Fin.ext ((Finset.mem_filter.mp h1).2.symm.trans (Finset.mem_filter.mp h2).2))
theorem slotSetV_union : (Finset.univ : Finset (Fin 3)).biUnion (fun a => slotSetV a.val) = Finset.univ := by
  ext j
  simp only [Finset.mem_biUnion, Finset.mem_univ, true_and, slotSetV, Finset.mem_filter, iff_true]
  exact ⟨j 0, rfl⟩

theorem sx_slots (c : Dev nD) (f : FVec F S3x2048x128 .f32) :
    ptSx c Finset.univ fullShare f = iprop(ptSx c (slotSet 0) fullShare f ∗ ptSx c (slotSet 1) fullShare f ∗ ptSx c (slotSet 2) fullShare f) :=
  pt_three (ℓ := (c : Thread nD τ).loc cc0_scratch0) (fun a : Fin 3 => slotSet a.val) slotSet_disjoint slotSet_union
theorem sv_slots (c : Dev nD) (f : FVec F S3x2048x384 .f32) :
    ptSv c Finset.univ f = iprop(ptSv c (slotSetV 0) f ∗ ptSv c (slotSetV 1) f ∗ ptSv c (slotSetV 2) f) :=
  pt_three (ℓ := (c : Thread nD τ).loc cc0_scratch1) (fun a : Fin 3 => slotSetV a.val) slotSetV_disjoint slotSetV_union

theorem sx_join (c : Dev nD) :
    iprop((∃ f, ptSx c (slotSet 0) fullShare f) ∗ (∃ f, ptSx c (slotSet 1) fullShare f) ∗ (∃ f, ptSx c (slotSet 2) fullShare f))
      ⊢ (iprop(∃ f, ptSx c Finset.univ fullShare f) : sProp 𝕄) := by
  refine BIBase.Entails.trans (BIBase.Entails.of_eq ?_)
    (Ring.pointsTo_blocks_join_exists (ℓ := (c : Thread nD τ).loc cc0_scratch0) (fun a : Fin 3 => slotSet a.val) slotSet_disjoint slotSet_union
      (fun _ => Classical.arbitrary _))
  rw [BI.bigSep_eq_bigSepL_of_eq (S := (Finset.univ : Finset (Fin 3))) [0, 1, 2] (by decide) (by decide)]; rfl

theorem sv_join (c : Dev nD) :
    iprop((∃ f, ptSv c (slotSetV 0) f) ∗ (∃ f, ptSv c (slotSetV 1) f) ∗ (∃ f, ptSv c (slotSetV 2) f))
      ⊢ (iprop(∃ f, ptSv c Finset.univ f) : sProp 𝕄) := by
  refine BIBase.Entails.trans (BIBase.Entails.of_eq ?_)
    (Ring.pointsTo_blocks_join_exists (ℓ := (c : Thread nD τ).loc cc0_scratch1) (fun a : Fin 3 => slotSetV a.val) slotSetV_disjoint slotSetV_union
      (fun _ => Classical.arbitrary _))
  rw [BI.bigSep_eq_bigSepL_of_eq (S := (Finset.univ : Finset (Fin 3))) [0, 1, 2] (by decide) (by decide)]; rfl

theorem rowsFrom_zero : rowsFrom 0 = Finset.univ := by
  ext j; simp [rowsFrom]
theorem rowsBelow_zero : rowsBelow 0 = ∅ := by
  ext j; simp [rowsBelow]
theorem rowsBelow_all : rowsBelow 8 = Finset.univ := by
  ext j
  have h : (j 0).val < 65536 := (j 0).isLt
  simp only [rowsBelow, Finset.mem_filter, Finset.mem_univ, true_and, iff_true]; omega

/-! ## The proof's data for the pipeline -/

/-- Between the points: the ring and the results, and the random number register. -/
def Phi (c : Dev nD) (t : ℕ) : sProp 𝕄 :=
  iprop(pointState (arg m c) c (V m c main_v0_0) (V m c main_v0_1) t ∗ (∃ r, prngReg c r))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := Phi m c t.val
  q _ := fullShare
  owed _ := 0

theorem A_eq (c : Dev nD) (w : Fin 1) : (dats m 0 c).A w = V m c (Pipeline.arrRef spec0 w) := by dsimp only [dats]
theorem before0 (c : Dev nD) (t : Fin cfg0.N) (d) : (dats m 0 c).before 0 t d = iblk m c 0 t :=
  ((dats m 0 c).before_in_eq_fetched 0 rfl (fun _ => rfl) (fun _ _ _ => rfl)
    (fun t => by dsimp only [dats]; unfold Dat.blockOf iblk; rfl) t d).trans (by unfold Dat.fetched Dat.blockOf iblk; rfl)

theorem point_lt (t : Fin cfg0.N) : t.val < 8 := lt_of_lt_of_eq t.isLt N_0
theorem coords_eq (t : Fin cfg0.N) : grid0.coords t = pointAt t.val :=
  congrArg grid0.coords (Fin.ext (Nat.mod_eq_of_lt (point_lt t)).symm)

/-- The block the pipeline stages at a point is the point's 2048 rows of the argument. -/
theorem iblk_eq (c : Dev nD) (t : Fin cfg0.N) : (iblk m c 0 t : Vec F S2048x128 .f32) = blockAt (arg m c) t.val := by
  have hi : win0_0.index t 0 = t.val ∧ win0_0.index t 1 = 0 := by
    rcases fin_N0 t with rfl | rfl | rfl | rfl | rfl | rfl | rfl | rfl <;> decide
  have ht := point_lt t
  funext j
  have hj : (j 0).val < 2048 := (j 0).isLt
  unfold iblk blockAt
  rw [View.read_apply]
  show V m c main_arg0 _ = V m c main_arg0 _
  congr 1
  funext a
  apply Fin.ext
  match a with
  | ⟨0, _⟩ => show win0_0.index t 0 * 2048 + 1 * (j 0).val = (2048 * t.val + (j 0).val) % 16384; rw [hi.1]; omega
  | ⟨1, _⟩ => show win0_0.index t 1 * 128 + 1 * (j 1).val = (j 1).val; rw [hi.2]; omega

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  unfold Dat.owesAt Pipeline.owesWithin
  rw [show (dats m 0 c).owed t.castSucc = 0 from rfl, show (dats m 0 c).owed t.succ = 0 from rfl,
    show (dats m 0 c).Φ t.castSucc = Phi m c t.val from rfl, show (dats m 0 c).Φ t.succ = Phi m c (t.val + 1) from rfl,
    show (dats m 0 c).after 0 t = iblk m c 0 t from rfl]
  unfold Phi
  iintro ⟨⟨HS, HP⟩, ⟨%W, -, HW⟩, %d, HM⟩
  ihave HM := (BIBase.Entails.of_eq (congrArg (owns (c : Thread nD τ) (st0_0 t) fullShare) (before0 m c t d))) $$ HM
  iapply (wp_body (arg m c) c t.val (grid0.coords t) (st0_0 t) _ (coords_eq t) (point_lt t) (V m c main_v0_0) (V m c main_v0_1) (iblk_eq m c t)) $$ [HS HM HW]
  · isplitl [HS]
    · iexact HS
    isplitl [HM]
    · iexact HM
    iexists W
    iexact HW
  iintro HS HM ⟨%W', HW⟩
  isplitl [HS HP]
  · isplitl [HS]
    · iexact HS
    iexact HP
  isplitl [HW]
  · iexists W'
    isplitr
    · ipureintro; exact fun _ _ => Or.inl trivial
    iexact HW
  iexact HM

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-! ## Into the first point, and out of the last -/

theorem start (c : Dev nD) : Pipeline.ΦDRG osem0 spec0 ∅ R0 (V m) (V m) c ⊢ (dats m 0 c).Φ 0 := by
  rw [PhiDRG0_eq, show (dats m 0 c).Φ 0 = Phi m c 0 from rfl]
  unfold Phi pointState waitRes free written
  rw [if_pos (by decide), if_pos (by decide), if_pos (by decide), if_pos (by decide), rowsFrom_zero,
    show (0 - 3 : ℕ) = 0 from rfl, rowsBelow_zero]
  iintro ⟨⟨⟨%f, HX⟩, ⟨%g, HV⟩⟩, HP, ⟨H0, H1, H2⟩, -, HA, HB⟩
  ihave HX := (BIBase.Entails.of_eq (sx_slots c f)) $$ HX
  icases HX with ⟨HX0, HX1, HX2⟩
  ihave HV := (BIBase.Entails.of_eq (sv_slots c g)) $$ HV
  icases HV with ⟨HV0, HV1, HV2⟩
  isplitr [HP]
  · isplitl [H0 HX0 HV0]
    · isplitl [H0]
      · iexact H0
      isplitl [HX0]
      · iexists f; iexact HX0
      iexists g; iexact HV0
    isplitl [H1 HX1 HV1]
    · isplitl [H1]
      · iexact H1
      isplitl [HX1]
      · iexists f; iexact HX1
      iexists g; iexact HV1
    isplitl [H2 HX2 HV2]
    · isplitl [H2]
      · iexact H2
      isplitl [HX2]
      · iexists f; iexact HX2
      iexists g; iexact HV2
    isplitl [HA]
    · iexact HA
    isplitl [HB]
    · iexact HB
    unfold ptXo ptXv
    rw [pointsTo_empty, pointsTo_empty]
    isplitr
    · iempintro
    iempintro
  iexact HP

theorem finish (c : Dev nD) : (dats m 0 c).Φ (Fin.last cfg0.N) ⊢ Pipeline.ΦDRG osem0 spec0 ∅ R0 (V m) (G m) c := by
  rw [PhiDRG0_eq, show (dats m 0 c).Φ (Fin.last cfg0.N) = Phi m c 8 from congrArg (Phi m c) N_0,
    show G m c main_v0_1 = result1 (arg m c) from Function.update_self _ _ _,
    show G m c main_v0_0 = result0 (arg m c) from
      (Function.update_of_ne (by decide) _ _).trans (Function.update_self _ _ _)]
  unfold Phi pointState free
  rw [if_neg (by decide), rowsBelow_all]
  iintro ⟨⟨⟨H0, HX0, HV0⟩, ⟨H1, HX1, HV1⟩, ⟨H2, HX2, HV2⟩, HA, HB⟩, HP⟩
  isplitl [HX0 HV0 HX1 HV1 HX2 HV2]
  · isplitl [HX0 HX1 HX2]
    · iapply (sx_join c)
      isplitl [HX0]
      · iexact HX0
      isplitl [HX1]
      · iexact HX1
      iexact HX2
    iapply (sv_join c)
    isplitl [HV0]
    · iexact HV0
    isplitl [HV1]
    · iexact HV1
    iexact HV2
  isplitl [HP]
  · iexact HP
  isplitl [H0 H1 H2]
  · isplitl [H0]
    · iexact H0
    isplitl [H1]
    · iexact H1
    iexact H2
  isplitr
  · iempintro
  isplitl [HA]
  · iexact HA
  iexact HB

/-! ## The run -/

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 ∅ R0 (by decide) R0_sub m ρ main
    (hbody := fun c => (body_obligation m c).loose) (hshare := fun c => (dats m 0 c).share_full fun _ => rfl)
    (howed := fun _ _ => rfl) (V := V m) (hmain := hmain' m Variants.none) (hA := A_eq m) (G := G m)
    (hin := start m) (hout := finish m)

/-- The kernel's run from any memory: the argument is as launched, the results are `result0` and `result1` of it, and no
    semaphore counter is left up. -/
theorem run : θ_run defs (onTc (τ := τ) (main (F := F))) ⟨m, fun _ => 0, ρ⟩ (fun r => (∀ c : Dev nD,
      r.2.mem ((c.tc : Thread nD τ).loc main_v0_0) = result0 (m ((c.tc : Thread nD τ).loc main_arg0))
      ∧ r.2.mem ((c.tc : Thread nD τ).loc main_v0_1) = result1 (m ((c.tc : Thread nD τ).loc main_arg0))
      ∧ r.2.mem ((c.tc : Thread nD τ).loc main_arg0) = m ((c.tc : Thread nD τ).loc main_arg0))
      ∧ r.2.sem = fun _ => 0) :=
  (θ_run defs _ _).mono (fun _ h => ⟨fun c =>
      ⟨(h.1.2 c main_v0_0 (by decide)).trans ((Function.update_of_ne (by decide) _ _).trans (Function.update_self _ _ _)),
       (h.1.2 c main_v0_1 (by decide)).trans (Function.update_self _ _ _),
       ((h.1.1 c).1 0).trans (((dats m 0 c).arrAt_in 0 rfl _).trans (A_eq m c 0))⟩, h.2⟩)
    (run_main m ρ)

end Cert.KernelIdeal.Hand

end
-- ==== Proof.Twin.lean ====
/-
  The kernel as written is, step for step, the kernel read over an arbitrary float: nothing was rewritten in it. So its run is
  the one already proved.
-/
module

public import proofs.«01_k».proof.Proof.Launch
public import proofs.«01_k».proof.Proof.Gen.Kernel.Skeleton

@[expose] public section

set_option maxRecDepth 65536

noncomputable section

namespace Cert.Kernel.Hand

open Idealize.ShloMosaic Idealize.ShloMosaic.TcCoe
open Idealize.SL Idealize.SL.Sem

variable {F : FTy → Type} [FloatOps F]

theorem main_eq : Cert.Kernel.main (F := F) = Cert.KernelIdeal.main (F := F) := rfl

theorem defs₀_eq : Cert.Kernel.defs₀ (F := F) = Cert.KernelIdeal.defs₀ (F := F) := by
  refine congrArg Defs.onTc ?_
  funext l a
  match l, a with
  | 0, (t, s) => rfl

theorem defs_eq : Cert.Kernel.defs (F := F) = Cert.KernelIdeal.defs (F := F) :=
  congrArg (Pipeline.defs Cert.KernelIdeal.pcfgs) defs₀_eq

open Cert.Kernel in
/-- The kernel leaves its argument as it was and every semaphore counter at zero. -/
theorem quiet (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) := by
  rw [main_eq, defs_eq]
  exact (θ_run Cert.KernelIdeal.defs _ _).mono (fun _ h => ⟨fun c => (h.1 c).2.2, h.2⟩) (Cert.KernelIdeal.Hand.run m ρ)

end Cert.Kernel.Hand

end
-- ==== Proof.Threefry.lean ====
/-
  The threefry-2x32 hash, on one pair of words: five groups of four rounds, with the key added in after each.
-/
module

public import Idealize.ShloMosaic.PureOps.Vector

@[expose] public section

namespace Cert.Hash

/-- A word rotated left by `l`, where `r` is 32 less `l`. -/
def rot (l r : BitVec 32) (x : BitVec 32) : BitVec 32 := x <<< l ||| x >>> r

/-- One round. -/
def step (l r : BitVec 32) (s : BitVec 32 × BitVec 32) : BitVec 32 × BitVec 32 := (s.1 + s.2, (s.1 + s.2) ^^^ rot l r s.2)

/-- Two words of the key, and the group's number, added in. -/
def inject (a b n : BitVec 32) (s : BitVec 32 × BitVec 32) : BitVec 32 × BitVec 32 := (s.1 + a, s.2 + b + n)

/-- The rounds of the even groups and of the odd ones. -/
def even (s : BitVec 32 × BitVec 32) : BitVec 32 × BitVec 32 := step 6#32 26#32 (step 26#32 6#32 (step 15#32 17#32 (step 13#32 19#32 s)))
def odd (s : BitVec 32 × BitVec 32) : BitVec 32 × BitVec 32 := step 24#32 8#32 (step 16#32 16#32 (step 29#32 3#32 (step 17#32 15#32 s)))

/-- The key's third word. -/
def third (a b : BitVec 32) : BitVec 32 := a ^^^ b ^^^ 466688986#32

/-- The hash of the counter `(x, y)` under the key `(a, b)`. -/
def threefry (a b x y : BitVec 32) : BitVec 32 × BitVec 32 :=
  inject (third a b) a 5#32 <| even <| inject b (third a b) 4#32 <| odd <| inject a b 3#32 <| even <|
    inject (third a b) a 2#32 <| odd <| inject b (third a b) 1#32 <| even (x + a, y + b)

end Cert.Hash
-- ==== Proof.Lanes.lean ====
/-
  The kernel's three hashes, one per masked copy, at one element: each is the same hash with the key's words folded into
  constants, of a counter of its own.
-/
module

public import proofs.«01_k».proof.Proof.Values
public import proofs.«01_k».proof.Proof.Threefry
public import Idealize.ShloMosaic.Lib.ValueLayout

@[expose] public section

set_option maxRecDepth 16384

noncomputable section

namespace Cert.KernelIdeal.Hand

open Cert.KernelIdeal Cert.KernelIdeal.Gen
open Cert.Hash
open Idealize.ShloMosaic

variable {F : FTy → Type} [FloatOps F]

/-- A pair of words. -/
abbrev Pair : Type := BitVec 32 × BitVec 32

/-- Two constants added in. -/
def plus (a c : BitVec 32) (s : Pair) : Pair := (s.1 + a, s.2 + c)

/-- The kernel's hash, in the stretches its text falls into: two rounds, -/
def opening (c : BitVec 32) : Pair := step 15#32 17#32 (c, c ^^^ rot 13#32 19#32 c)
/-- the rest of the first group and the second, -/
def groupsA (s : Pair) : Pair := odd (plus 42#32 466689009#32 (step 6#32 26#32 (step 26#32 6#32 s)))
/-- the third and a round of the fourth, -/
def groupsB (s : Pair) : Pair := step 17#32 15#32 (plus 0#32 45#32 (even (plus 466689008#32 2#32 s)))
/-- the rest of the fourth and half the fifth, -/
def groupsC (s : Pair) : Pair :=
  step 15#32 17#32 (step 13#32 19#32 (plus 42#32 466689012#32 (step 24#32 8#32 (step 16#32 16#32 (step 29#32 3#32 s)))))
/-- and the end. -/
def ending (s : Pair) : Pair := plus 466689008#32 5#32 (step 6#32 26#32 (step 26#32 6#32 s))

/-- The whole of it. -/
def folded (c : BitVec 32) : Pair := ending (groupsC (groupsB (groupsA (opening c))))

theorem plus_eq (a b n c : BitVec 32) (h : b + n = c) (s : Pair) : plus a c s = inject a b n s := by
  rw [plus, inject, BitVec.add_assoc, h]

/-- A first round whose first word is nought. -/
theorem first_round (c : BitVec 32) : step 13#32 19#32 (0#32 + 0#32, c) = (c, c ^^^ rot 13#32 19#32 c) := by
  simp only [step, BitVec.zero_add]

/-- It is the hash under the key 42, the key already added to the counter. -/
theorem folded_eq (y : BitVec 32) : folded (y + 42#32) = threefry 0#32 42#32 0#32 y := by
  unfold threefry even odd
  rw [show third 0#32 42#32 = 466689008#32 from by decide, first_round, ← plus_eq 42#32 466689008#32 1#32 466689009#32 (by decide),
    ← plus_eq 466689008#32 0#32 2#32 2#32 (by decide), ← plus_eq 0#32 42#32 3#32 45#32 (by decide),
    ← plus_eq 42#32 466689008#32 4#32 466689012#32 (by decide), ← plus_eq 466689008#32 0#32 5#32 5#32 (by decide)]
  rfl

/-- What a masked copy holds: -1 where the word falls under the bound, the argument's element elsewhere. -/
def maskAt (c : BitVec 32) (x : F .f32) : F .f32 :=
  Scalar.select (IntOp.cmpi .ult ((folded c).1 ^^^ (folded c).2) 644245504#32) (FloatOps.ofBits .f32 0xBF800000#32) x

section Copies

variable (S : S2048x128.Idx → Pair)

/-! The stretches of each copy's text, the state before a stretch given at every element as the text carries it. -/

theorem lane0_A : k0_pay20 (fun y => (S y).2) (fun y => (S y).1 + (S y).2) (fun y => (S y).2 <<< 26#32) (fun _ => 6#32) = (fun y => (groupsA (S y)).2) := rfl
theorem lane0_A' : k0_pay21 (fun y => (S y).2) (fun y => (S y).1 + (S y).2) (fun y => (S y).2 <<< 26#32) (fun _ => 6#32) = (fun y => (groupsA (S y)).1 + 466689008#32) := rfl
theorem lane0_B : k0_pay32 (fun y => (S y).2) (fun y => (S y).1 + 466689008#32) 0#32 = (fun y => (groupsB (S y)).2) := rfl
theorem lane0_B' : k0_pay33 (fun y => (S y).2) (fun y => (S y).1 + 466689008#32) 0#32 = (fun y => (groupsB (S y)).1 + (groupsB (S y)).2) := rfl
theorem lane0_C : k0_pay45 (fun y => (S y).2) (fun y => (S y).1 + (S y).2) k0_pay34 = (fun y => (step 26#32 6#32 (groupsC (S y))).2) := rfl
theorem lane0_C' : k0_pay46 (fun y => (S y).2) (fun y => (S y).1 + (S y).2) k0_pay34
    = (fun y => (step 26#32 6#32 (groupsC (S y))).1 + (step 26#32 6#32 (groupsC (S y))).2) := rfl

theorem lane1_A : k0_pay64 (fun y => (S y).2) (fun y => (S y).1 + (S y).2) (fun y => (S y).2 <<< 26#32) 6#32 = (fun y => (groupsA (S y)).2) := rfl
theorem lane1_A' : k0_pay65 (fun y => (S y).2) (fun y => (S y).1 + (S y).2) (fun y => (S y).2 <<< 26#32) 6#32 = (fun y => (groupsA (S y)).1 + 466689008#32) := rfl
theorem lane1_B : k0_pay76 (fun y => (S y).2) (fun y => (S y).1 + 466689008#32) = (fun y => (groupsB (S y)).2) := rfl
theorem lane1_B' : k0_pay77 (fun y => (S y).2) (fun y => (S y).1 + 466689008#32) = (fun y => (groupsB (S y)).1 + (groupsB (S y)).2) := rfl
theorem lane1_C : k0_pay87 (fun y => (S y).2) (fun y => (S y).1 + (S y).2) 29#32 = (fun y => (step 26#32 6#32 (groupsC (S y))).1) := rfl
theorem lane1_C' : k0_pay88 (fun y => (S y).2) (fun y => (S y).1 + (S y).2) 29#32 = (fun y => (step 26#32 6#32 (groupsC (S y))).2) := rfl

theorem lane2_A : k0_pay105 (fun y => (S y).2) (fun y => (S y).1 + (S y).2) (fun y => (S y).2 <<< 26#32) = (fun y => (groupsA (S y)).1) := rfl
theorem lane2_A' : k0_pay106 (fun y => (S y).2) (fun y => (S y).1 + (S y).2) (fun y => (S y).2 <<< 26#32) = (fun y => (groupsA (S y)).2) := rfl
theorem lane2_B : k0_pay118 (fun y => (S y).1) (fun y => (S y).2) k0_pay107 = (fun y => (groupsB (S y)).2) := rfl
theorem lane2_B' : k0_pay119 (fun y => (S y).1) (fun y => (S y).2) k0_pay107 = (fun y => (groupsB (S y)).1 + (groupsB (S y)).2) := rfl
theorem lane2_C : k0_pay129 (fun y => (S y).2) (fun y => (S y).1 + (S y).2) = (fun y => (step 26#32 6#32 (groupsC (S y))).1) := rfl
theorem lane2_C' : k0_pay130 (fun y => (S y).2) (fun y => (S y).1 + (S y).2) = (fun y => rot 26#32 6#32 (groupsC (S y)).2) := rfl

end Copies

/-- The counter of a block's element in its first copy: the row's place in the array, 512 words to a row of the argument. -/
def place (i : grid0.Coords) (y : S2048x128.Idx) : BitVec 32 :=
  BitVec.ofNat 32 (i 0).val * 1048576#32 + BitVec.ofNat 32 (y 0).val <<< 9#32 + BitVec.ofNat 32 (y 1).val

theorem place_eq (i : grid0.Coords) (y : S2048x128.Idx) : k0_pay1 i y = place i y := by
  show BitVec.ofNat 32 (i 0).val * 1048576#32 + BitVec.ofNat 32 (0 * 2048 + (y 0).val) <<< 9#32 + BitVec.ofNat 32 (0 * 128 + (y 1).val) = _
  simp only [Nat.zero_mul, Nat.zero_add, place]

section Starts

variable (i : grid0.Coords) (w : IVec S2048x128 32)

/-! Each copy's first two rounds. -/

theorem lane0_S : k0_pay6 i = fun y => (opening (k0_pay1 i y + 128#32 + 42#32)).2 := rfl
theorem lane0_S' : k0_pay7 i = fun y => (opening (k0_pay1 i y + 128#32 + 42#32)).1 + (opening (k0_pay1 i y + 128#32 + 42#32)).2 := rfl
theorem lane0_S'' : k0_pay8 i = fun y => (opening (k0_pay1 i y + 128#32 + 42#32)).2 <<< 26#32 := rfl
theorem lane0_six : k0_pay9 = fun _ => 6#32 := rfl
theorem lane1_S : k0_pay51 w = fun y => (opening (w y + 256#32 + 42#32)).2 := rfl
theorem lane1_S' : k0_pay52 w = fun y => (opening (w y + 256#32 + 42#32)).1 + (opening (w y + 256#32 + 42#32)).2 := rfl
theorem lane1_S'' : k0_pay53 w = fun y => (opening (w y + 256#32 + 42#32)).2 <<< 26#32 := rfl
theorem lane2_S : k0_pay93 w = fun y => (opening (w y + 384#32 + 42#32)).2 := rfl
theorem lane2_S' : k0_pay94 w = fun y => (opening (w y + 384#32 + 42#32)).1 + (opening (w y + 384#32 + 42#32)).2 := rfl
theorem lane2_S'' : k0_pay95 w = fun y => (opening (w y + 384#32 + 42#32)).2 <<< 26#32 := rfl

end Starts

/-- An element of a block read where it stands in a payload. -/
theorem cast_lead (y : S2048x128.Idx) (u : FVec F S2048x128 .f32) : shapeCast S1x2048x128 u shapeCasts_S2048x128_S1x2048x128 (lead y) = u y := by
  refine (ValueIdx.shapeCast_ab_1ab_apply u _ (0 : Fin 1) (y 0 : Fin 2048) (y 1 : Fin 128)).trans ?_
  exact congrArg u (funext fun a => match a with | 0 => rfl | 1 => rfl)

variable (i : grid0.Coords) (v : Vec F S2048x128 .f32) (y : S2048x128.Idx)

theorem lane0_at : lane0 i v (lead y) = maskAt (place i y + 128#32 + 42#32) (v y) := by
  rw [lane0, lane0_S, lane0_S', lane0_S'', lane0_six]
  rw [lane0_A fun y => opening (k0_pay1 i y + 128#32 + 42#32), lane0_A' fun y => opening (k0_pay1 i y + 128#32 + 42#32),
    lane0_B fun y => groupsA (opening (k0_pay1 i y + 128#32 + 42#32)), lane0_B' fun y => groupsA (opening (k0_pay1 i y + 128#32 + 42#32)),
    lane0_C fun y => groupsB (groupsA (opening (k0_pay1 i y + 128#32 + 42#32))), lane0_C' fun y => groupsB (groupsA (opening (k0_pay1 i y + 128#32 + 42#32)))]
  rw [← place_eq, k0_pay47]
  exact (cast_lead y _).trans rfl

theorem lane1_at : lane1 i v (lead y) = maskAt (place i y + 256#32 + 42#32) (v y) := by
  rw [lane1, lane1_S, lane1_S', lane1_S'']
  rw [lane1_A fun y => opening (k0_pay1 i y + 256#32 + 42#32), lane1_A' fun y => opening (k0_pay1 i y + 256#32 + 42#32),
    lane1_B fun y => groupsA (opening (k0_pay1 i y + 256#32 + 42#32)), lane1_B' fun y => groupsA (opening (k0_pay1 i y + 256#32 + 42#32)),
    lane1_C fun y => groupsB (groupsA (opening (k0_pay1 i y + 256#32 + 42#32))), lane1_C' fun y => groupsB (groupsA (opening (k0_pay1 i y + 256#32 + 42#32)))]
  rw [← place_eq, k0_pay89]
  exact (cast_lead y _).trans rfl

theorem lane2_at : lane2 i v (lead y) = maskAt (place i y + 384#32 + 42#32) (v y) := by
  rw [lane2, lane2_S, lane2_S', lane2_S'']
  rw [lane2_A fun y => opening (k0_pay1 i y + 384#32 + 42#32), lane2_A' fun y => opening (k0_pay1 i y + 384#32 + 42#32),
    lane2_B fun y => groupsA (opening (k0_pay1 i y + 384#32 + 42#32)), lane2_B' fun y => groupsA (opening (k0_pay1 i y + 384#32 + 42#32)),
    lane2_C fun y => groupsB (groupsA (opening (k0_pay1 i y + 384#32 + 42#32))), lane2_C' fun y => groupsB (groupsA (opening (k0_pay1 i y + 384#32 + 42#32)))]
  rw [← place_eq, k0_pay131]
  exact (cast_lead y _).trans rfl

end Cert.KernelIdeal.Hand

end
-- ==== Proof.Line.lean ====
/-
  Lines of host operations, and what they do to the buffers' contents: `Line p P Q` says that `p` is such a line and takes
  contents with `P` to contents with `Q`.
-/
module

public import proofs.«01_k».proof.Proof.Gen.ReferenceIdeal
public import Idealize.ShloMosaic.Lib.StableHlo.RunHlo

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- A program of the reference. -/
abbrev HostProg (F : FTy → Type) [FloatOps F] : Type 1 :=
  Prog (TpuEff nD τ sig (Elt F) (Pipeline.Sig Λ₀ (Fin 0) fun p => (pcfgs (F := F) p).Adm) .tc) PUnit

/-- What the buffers hold. -/
abbrev Contents (F : FTy → Type) : Type := Valuation τ sig (Elt F)

/-- `p` is the operations `ops`, then `k`. -/
def Then (p : HostProg F) (ops : List (HloOp τ sig (Elt F))) (k : HostProg F) : Prop := p = seqK ops k

theorem Then.nil {k : HostProg F} : Then k [] k := rfl
theorem Then.cons {op : HloOp τ sig (Elt F)} {k l : HostProg F} {ops : List (HloOp τ sig (Elt F))} (h : Then k ops l) :
    Then ((hlo rfl op fun _ => .ret (⟨⟩ : PUnit)) >>= fun _ => k) (op :: ops) l := by
  unfold Then at h ⊢; rw [h]; rfl
theorem Then.last {op : HloOp τ sig (Elt F)} : Then (F := F) (hlo rfl op fun _ => .ret (⟨⟩ : PUnit)) [op] (pure ⟨⟩) := rfl

/-- A line of host operations, from contents with `P` to contents with `Q`. -/
def Line (p : HostProg F) (P Q : Contents F → Prop) : Prop :=
  ∃ ops : List (HloOp τ sig (Elt F)), p = seq ops ∧ (ops.Forall fun op => op.bufs ⊆ tcRefs τ sig) ∧ (∀ op ∈ ops, op.fresh = ∅)
    ∧ ∀ V, P V → Q (after ops V)

theorem after_append {l₁ l₂ : List (HloOp τ sig (Elt F))} {V : Contents F} : after (l₁ ++ l₂) V = after l₂ (after l₁ V) := by
  induction l₁ generalizing V with
  | nil => rfl
  | cons op l ih => exact ih

theorem Line.seq {p q : HostProg F} {P Q R : Contents F → Prop} (h : Line p P Q) (h' : Line q Q R) : Line (p >>= fun _ => q) P R := by
  obtain ⟨l, rfl, hb, hf, hv⟩ := h
  obtain ⟨l', rfl, hb', hf', hv'⟩ := h'
  refine ⟨l ++ l', (seq_append _ _).symm, ?_, ?_, fun V hV => ?_⟩
  · rw [List.forall_append]; exact ⟨hb, hb'⟩
  · intro op ho
    rcases List.mem_append.mp ho with h | h
    · exact hf _ h
    · exact hf' _ h
  · rw [after_append]; exact hv' _ (hv _ hV)

/-- A stretch of operations and no more. -/
theorem Line.ops {p : HostProg F} {ops : List (HloOp τ sig (Elt F))} {P Q : Contents F → Prop} (run : Then p ops (pure ⟨⟩))
    (bufs : ops.Forall fun op => op.bufs ⊆ tcRefs τ sig) (fresh : ∀ op ∈ ops, op.fresh = ∅) (val : ∀ V, P V → Q (after ops V)) : Line p P Q :=
  ⟨ops, by rw [show p = _ from run, ← seq_bind_seqK]; exact bind_pure _, bufs, fresh, val⟩

/-- A stretch of operations, and the rest. -/
theorem Line.stretch {p k : HostProg F} {ops : List (HloOp τ sig (Elt F))} {P Q R : Contents F → Prop} (run : Then p ops k)
    (bufs : ops.Forall fun op => op.bufs ⊆ tcRefs τ sig) (fresh : ∀ op ∈ ops, op.fresh = ∅) (val : ∀ V, P V → Q (after ops V))
    (rest : Line k Q R) : Line p P R := by
  have h := Line.seq (p := StableHlo.seq ops) ⟨ops, rfl, bufs, fresh, val⟩ rest
  rwa [seq_bind_seqK, ← show p = _ from run] at h

end Cert.ReferenceIdeal.Hand

end
-- ==== Proof.RefHash.lean ====
/-
  The reference's call of the hash: after it the two result arrays hold the hash of each element's counter.
-/
module

public import proofs.«01_k».proof.Proof.Line
public import proofs.«01_k».proof.Proof.Threefry

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo
open Idealize.SL Idealize.SL.Sem
open Cert.Hash

variable {F : FTy → Type} [FloatOps F]

/-- Row `r` of the reference's first result is row `r / 4` of the argument. -/
def rep (X : FVec F S16384x128 .f32) : FVec F S65536x128 .f32 :=
  shapeCast S65536x128 (broadcastInDim S16384x4x128 ![0, 2] bcast_S16384x128_S16384x4x128_0_2 X) shapeCasts_S16384x4x128_S65536x128

/-- The chance that an element is masked: 0.15, or nothing where the element is -1. -/
def chance (x : F .f32) : F .f32 :=
  FloatOps.mulf (FloatOps.uitofp .f32 (FloatOps.cmpf .une x (FloatOps.ofBits .f32 0xBF800000#32))) (FloatOps.ofBits .f32 0x3E19999A#32)

/-- What stays as it is while the hash runs: the argument, the first result, the chances, the bounds of the uniform numbers and
    the key `(a, b)`. -/
structure Held (X : FVec F S16384x128 .f32) (a b : BitVec 32) (V : Contents F) : Prop where
  arg : V (Proc.devRef .tc main_arg0) = X
  rows : V (Proc.devRef .tc main_v1) = rep X
  chances : V (Proc.devRef .tc main_v6) = fun j => chance (rep X j)
  low : V (Proc.devRef .tc main_call0_call0_v2) = fun _ => FloatOps.ofBits .f32 0x00000000#32
  high : V (Proc.devRef .tc main_call0_call0_v3) = fun _ => FloatOps.ofBits .f32 0x3F800000#32
  keyA : V (Proc.devRef .tc main_call0_call0_v5) = fun _ => a
  keyB : V (Proc.devRef .tc main_call0_call0_v7) = fun _ => b

/-- Before the hash: the counters `(x, y)` are laid out. -/
structure Counted (X : FVec F S16384x128 .f32) (a b : BitVec 32) (x y : S65536x128.Idx → BitVec 32) (V : Contents F) : Prop extends Held X a b V where
  ctrX : V (Proc.devRef .tc main_call0_call0_v18) = x
  ctrY : V (Proc.devRef .tc main_call0_call0_v17) = y

/-- In between: the state `s` sits in the buffers `u` and `v` as its first word (or the sum of both, where `sum` holds) and its second. -/
structure Mid (X : FVec F S16384x128 .f32) (a b : BitVec 32) (u v : TRef sig ⟨S65536x128, .i32⟩) (sum : Bool) (s : S65536x128.Idx → BitVec 32 × BitVec 32)
    (V : Contents F) : Prop extends Held X a b V where
  keyC : V (Proc.devRef .tc main_call0_call0_call0_v1) = fun _ => third a b
  fst : u.ofBuf (V (Proc.devRef .tc u.ref)) = fun j => if sum then (s j).1 + (s j).2 else (s j).1
  snd : v.ofBuf (V (Proc.devRef .tc v.ref)) = fun j => (s j).2

/-- After the hash. -/
structure Hashed (X : FVec F S16384x128 .f32) (a b : BitVec 32) (x y : S65536x128.Idx → BitVec 32) (V : Contents F) : Prop extends Held X a b V where
  outX : V (Proc.devRef .tc main_call0_call0_v19_0) = fun j => (threefry a b (x j) (y j)).1
  outY : V (Proc.devRef .tc main_call0_call0_v19_1) = fun j => (threefry a b (x j) (y j)).2

/-- The state after the first round of the second group, after three rounds of the third, and after the fourth group. -/
def state1 (a b x y : BitVec 32) : BitVec 32 × BitVec 32 := step 17#32 15#32 <| inject b (third a b) 1#32 <| even (x + a, y + b)
def state2 (a b : BitVec 32) (s : BitVec 32 × BitVec 32) : BitVec 32 × BitVec 32 :=
  step 26#32 6#32 <| step 15#32 17#32 <| step 13#32 19#32 <| inject (third a b) a 2#32 <| step 24#32 8#32 <| step 16#32 16#32 <| step 29#32 3#32 s
def state3 (a b : BitVec 32) (s : BitVec 32 × BitVec 32) : BitVec 32 × BitVec 32 :=
  inject b (third a b) 4#32 <| odd <| inject a b 3#32 <| step 6#32 26#32 s
theorem threefry_eq (a b x y : BitVec 32) :
    threefry a b x y = inject (third a b) a 5#32 (even (state3 a b (state2 a b (state1 a b x y)))) := rfl

variable (X : FVec F S16384x128 .f32) (a b : BitVec 32) (x y : S65536x128.Idx → BitVec 32) (s : S65536x128.Idx → BitVec 32 × BitVec 32)

/-- The hash's first 60 operations. -/
theorem part0 : Line (F := F) (fn_threefry2x32.body_part0 (main_call0_call0.v5) (main_call0_call0.v7) (main_call0_call0.v18) (main_call0_call0.v17) main_call0_call0_call0)
    (Counted X a b x y)
    (Mid X a b main_call0_call0_call0.v47 main_call0_call0_call0.v46 true fun j => state1 a b (x j) (y j)) := by
  unfold fn_threefry2x32.body_part0
  apply Line.ops
  case run => repeat (first | exact Then.last | exact Then.nil | apply Then.cons)
  case bufs => simp only [List.forall_cons, List.Forall, nullary_bufs_sub, unary_bufs_sub, binary_bufs_sub, and_self]
  case fresh =>
    simp only [List.forall_mem_cons, List.not_mem_nil, false_implies, implies_true, and_true]
    repeat' constructor
  case val =>
    intro V h
    refine { toHeld := ⟨by after_results_simp; exact h.arg, by after_results_simp; exact h.rows, by after_results_simp; exact h.chances, by after_results_simp; exact h.low,
      by after_results_simp; exact h.high, by after_results_simp; exact h.keyA, by after_results_simp; exact h.keyB⟩, keyC := by after_results_simp; simp only [h.keyA, h.keyB, h.ctrX, h.ctrY]; rfl, fst := ?_, snd := ?_ }
    · simp only [TRef.ofBuf, cast_eq, if_true, Bool.false_eq_true, if_false]
      after_results_simp
      simp only [h.keyA, h.keyB, h.ctrX, h.ctrY]
      rfl
    · simp only [TRef.ofBuf, cast_eq]
      after_results_simp
      simp only [h.keyA, h.keyB, h.ctrX, h.ctrY]
      rfl

/-- The next 60. -/
theorem part1 : Line (F := F) (fn_threefry2x32.body_part1 (main_call0_call0.v5) (main_call0_call0.v7) (main_call0_call0.v18) (main_call0_call0.v17) main_call0_call0_call0)
    (Mid X a b main_call0_call0_call0.v47 main_call0_call0_call0.v46 true s)
    (Mid X a b main_call0_call0_call0.v88 main_call0_call0_call0.v94 false fun j => state2 a b (s j)) := by
  unfold fn_threefry2x32.body_part1
  apply Line.ops
  case run => repeat (first | exact Then.last | exact Then.nil | apply Then.cons)
  case bufs => simp only [List.forall_cons, List.Forall, nullary_bufs_sub, unary_bufs_sub, binary_bufs_sub, and_self]
  case fresh =>
    simp only [List.forall_mem_cons, List.not_mem_nil, false_implies, implies_true, and_true]
    repeat' constructor
  case val =>
    intro V h
    have fst := h.fst
    have snd := h.snd
    simp only [TRef.ofBuf, cast_eq, if_true, Bool.false_eq_true, if_false] at fst snd
    refine { toHeld := ⟨by after_results_simp; exact h.arg, by after_results_simp; exact h.rows, by after_results_simp; exact h.chances, by after_results_simp; exact h.low,
      by after_results_simp; exact h.high, by after_results_simp; exact h.keyA, by after_results_simp; exact h.keyB⟩, keyC := by after_results_simp; exact h.keyC, fst := ?_, snd := ?_ }
    · simp only [TRef.ofBuf, cast_eq, if_true, Bool.false_eq_true, if_false]
      after_results_simp
      simp only [h.keyA, h.keyB, h.keyC, fst, snd]
      rfl
    · simp only [TRef.ofBuf, cast_eq]
      after_results_simp
      simp only [h.keyA, h.keyB, h.keyC, fst, snd]
      rfl

/-- The next 60. -/
theorem part2 : Line (F := F) (fn_threefry2x32.body_part2 (main_call0_call0.v5) (main_call0_call0.v7) (main_call0_call0.v18) (main_call0_call0.v17) main_call0_call0_call0)
    (Mid X a b main_call0_call0_call0.v88 main_call0_call0_call0.v94 false s)
    (Mid X a b main_call0_call0_call0.v142 main_call0_call0_call0.v141 true fun j => state3 a b (s j)) := by
  unfold fn_threefry2x32.body_part2
  apply Line.ops
  case run => repeat (first | exact Then.last | exact Then.nil | apply Then.cons)
  case bufs => simp only [List.forall_cons, List.Forall, nullary_bufs_sub, unary_bufs_sub, binary_bufs_sub, and_self]
  case fresh =>
    simp only [List.forall_mem_cons, List.not_mem_nil, false_implies, implies_true, and_true]
    repeat' constructor
  case val =>
    intro V h
    have fst := h.fst
    have snd := h.snd
    simp only [TRef.ofBuf, cast_eq, if_true, Bool.false_eq_true, if_false] at fst snd
    refine { toHeld := ⟨by after_results_simp; exact h.arg, by after_results_simp; exact h.rows, by after_results_simp; exact h.chances, by after_results_simp; exact h.low,
      by after_results_simp; exact h.high, by after_results_simp; exact h.keyA, by after_results_simp; exact h.keyB⟩, keyC := by after_results_simp; exact h.keyC, fst := ?_, snd := ?_ }
    · simp only [TRef.ofBuf, cast_eq, if_true, Bool.false_eq_true, if_false]
      after_results_simp
      simp only [h.keyA, h.keyB, h.keyC, fst, snd]
      rfl
    · simp only [TRef.ofBuf, cast_eq]
      after_results_simp
      simp only [h.keyA, h.keyB, h.keyC, fst, snd]
      rfl

/-- The last 43. -/
theorem part3 : Line (F := F) (fn_threefry2x32.body_part3 (main_call0_call0.v5) (main_call0_call0.v7) (main_call0_call0.v18) (main_call0_call0.v17) main_call0_call0_call0)
    (Mid X a b main_call0_call0_call0.v142 main_call0_call0_call0.v141 true s)
    (fun V => Held X a b V ∧ V (Proc.devRef .tc main_call0_call0_v19_0) = (fun j => (inject (third a b) a 5#32 (even (s j))).1) ∧ V (Proc.devRef .tc main_call0_call0_v19_1) = fun j => (inject (third a b) a 5#32 (even (s j))).2) := by
  unfold fn_threefry2x32.body_part3
  apply Line.ops
  case run => repeat (first | exact Then.last | exact Then.nil | apply Then.cons)
  case bufs => simp only [List.forall_cons, List.Forall, nullary_bufs_sub, unary_bufs_sub, binary_bufs_sub, and_self]
  case fresh =>
    simp only [List.forall_mem_cons, List.not_mem_nil, false_implies, implies_true, and_true]
    repeat' constructor
  case val =>
    intro V h
    have fst := h.fst
    have snd := h.snd
    simp only [TRef.ofBuf, cast_eq, if_true, Bool.false_eq_true, if_false] at fst snd
    refine ⟨⟨by after_results_simp; exact h.arg, by after_results_simp; exact h.rows, by after_results_simp; exact h.chances, by after_results_simp; exact h.low,
      by after_results_simp; exact h.high, by after_results_simp; exact h.keyA, by after_results_simp; exact h.keyB⟩, by after_results_simp; simp only [h.keyA, h.keyB, h.keyC, fst, snd]; rfl, by after_results_simp; simp only [h.keyA, h.keyB, h.keyC, fst, snd]; rfl⟩

/-- The whole call. -/
theorem hash_line : Line (F := F) (fn_threefry2x32.body (main_call0_call0.v5) (main_call0_call0.v7) (main_call0_call0.v18) (main_call0_call0.v17) main_call0_call0_call0)
    (Counted X a b x y) (Hashed X a b x y) := by
  unfold fn_threefry2x32.body
  refine (part0 X a b x y).seq ((part1 X a b _).seq ((part2 X a b _).seq ?_))
  obtain ⟨ops, h, hb, hf, hv⟩ := part3 X a b (fun j => state3 a b (state2 a b (state1 a b (x j) (y j))))
  exact ⟨ops, h, hb, hf, fun V hV => ⟨(hv V hV).1, (hv V hV).2.1, (hv V hV).2.2⟩⟩

end Cert.ReferenceIdeal.Hand

end
-- ==== Proof.RefRun.lean ====
/-
  The reference's run: what it leaves in its two results, element by element.
-/
module

public import proofs.«01_k».proof.Proof.RefHash
public import Idealize.ShloMosaic.Lib.Quiescent

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.StableHlo
open Idealize.SL Idealize.SL.Sem
open Cert.Hash

variable {F : FTy → Type} [FloatOps F]

/-- An element's counter: its place in the array, row by row. -/
def counter (j : S65536x128.Idx) : BitVec 64 := 128#64 * BitVec.ofNat 64 (j 0).val + 1#64 * BitVec.ofNat 64 (j 1).val
def ctrHigh (j : S65536x128.Idx) : BitVec 32 := (IntOp.shrui .host (counter j) 32#64).setWidth 32
def ctrLow (j : S65536x128.Idx) : BitVec 32 := (counter j).setWidth 32

/-- An element's random word. -/
def word (j : S65536x128.Idx) : BitVec 32 :=
  (threefry 0#32 42#32 (ctrHigh j) (ctrLow j)).1 ^^^ (threefry 0#32 42#32 (ctrHigh j) (ctrLow j)).2

/-- The uniform number of a word: its top 23 bits as a fraction, brought between the bounds 0 and 1. -/
def uniform (w : BitVec 32) : F .f32 :=
  FloatOps.maximumf (FloatOps.ofBits .f32 0x00000000#32)
    (FloatOps.addf
      (FloatOps.mulf (FloatOps.subf (FloatOps.ofBits .f32 (IntOp.ori (IntOp.shrui .host w 9#32) 1065353216#32)) (FloatOps.ofBits .f32 0x3F800000#32))
        (FloatOps.subf (FloatOps.ofBits .f32 0x3F800000#32) (FloatOps.ofBits .f32 0x00000000#32)))
      (FloatOps.ofBits .f32 0x00000000#32))

/-- A row's number modulo 4, as the reference takes it. -/
def rem4 (r : BitVec 32) : BitVec 32 :=
  Scalar.select
    (IntOp.andi (IntOp.cmpi .ne (IntOp.cmpi .slt (IntOp.remsi .host r (Scalar.select (IntOp.cmpi .eq 4#32 0#32) 1#32 4#32)) 0#32)
        (IntOp.cmpi .slt (Scalar.select (IntOp.cmpi .eq 4#32 0#32) 1#32 4#32) 0#32))
      (IntOp.cmpi .ne (IntOp.remsi .host r (Scalar.select (IntOp.cmpi .eq 4#32 0#32) 1#32 4#32)) 0#32))
    (IntOp.addi (IntOp.remsi .host r (Scalar.select (IntOp.cmpi .eq 4#32 0#32) 1#32 4#32)) (Scalar.select (IntOp.cmpi .eq 4#32 0#32) 1#32 4#32))
    (IntOp.remsi .host r (Scalar.select (IntOp.cmpi .eq 4#32 0#32) 1#32 4#32))

/-- Whether an element is drawn, as a float: never in a row whose number is a multiple of 4. -/
def drawn (r : BitVec 32) (w : BitVec 32) (x : F .f32) : F .f32 :=
  Scalar.select (IntOp.cmpi .eq (rem4 r) 0#32) (FloatOps.ofBits .f32 0x00000000#32)
    (FloatOps.uitofp .f32 (FloatOps.cmpf .olt (uniform w) (chance x)))

/-- The second result: -1 where drawn, the first result elsewhere. -/
def masked (X : FVec F S16384x128 .f32) : FVec F S65536x128 .f32 := fun j =>
  Scalar.select (FloatOps.cmpf .oeq (drawn (BitVec.ofNat 32 (j 0).val) (word j) (rep X j)) (FloatOps.ofBits .f32 0x3F800000#32))
    (FloatOps.ofBits .f32 0xBF800000#32) (rep X j)

/-- The key's two words, cut from the array of both. -/
theorem key_low : shapeCast S_ (extractStridedSlice S1 ![0] (concatenate S2 0 [⟨S1, fun _ => 0#32⟩, ⟨S1, fun _ => 42#32⟩] concatenates_S1_S1_S2_d0) slices_S2_S1_0)
    shapeCasts_S1_S_ = fun _ => 0#32 := by
  funext j
  obtain rfl : j = fun a => a.elim0 := funext fun a => a.elim0
  rfl
theorem key_high : shapeCast S_ (extractStridedSlice S1 ![1] (concatenate S2 0 [⟨S1, fun _ => 0#32⟩, ⟨S1, fun _ => 42#32⟩] concatenates_S1_S1_S2_d0) slices_S2_S1_1)
    shapeCasts_S1_S_ = fun _ => 42#32 := by
  funext j
  obtain rfl : j = fun a => a.elim0 := funext fun a => a.elim0
  rfl

variable (X : FVec F S16384x128 .f32)

/-- What the reference leaves. -/
structure Left (V : Contents F) : Prop where
  arg : V (Proc.devRef .tc main_arg0) = X
  rows : V (Proc.devRef .tc main_v1) = rep X
  out : V (Proc.devRef .tc main_v24) = masked X

/-- The key's two words stand in arrays of their own. -/
structure Halves (V : Contents F) : Prop where
  arg : V (Proc.devRef .tc main_arg0) = X
  rows : V (Proc.devRef .tc main_v1) = rep X
  chances : V (Proc.devRef .tc main_v6) = fun j => chance (rep X j)
  low : V (Proc.devRef .tc main_v9) = fun _ => 0#32
  high : V (Proc.devRef .tc main_v12) = fun _ => 42#32

/-- The key stands in one array. -/
structure Keyed (V : Contents F) : Prop where
  arg : V (Proc.devRef .tc main_arg0) = X
  rows : V (Proc.devRef .tc main_v1) = rep X
  chances : V (Proc.devRef .tc main_v6) = fun j => chance (rep X j)
  key : V (Proc.devRef .tc main_v13) = concatenate S2 0 [⟨S1, fun _ => 0#32⟩, ⟨S1, fun _ => 42#32⟩] concatenates_S1_S1_S2_d0

/-- The uniform numbers have been compared with their chances. -/
structure Compared (V : Contents F) : Prop where
  arg : V (Proc.devRef .tc main_arg0) = X
  rows : V (Proc.devRef .tc main_v1) = rep X
  less : V (Proc.devRef .tc main_v14) = fun j => FloatOps.cmpf .olt (uniform (word j)) (chance (rep X j))

/-- The rows' numbers modulo 4 are there too. -/
structure Placed (V : Contents F) : Prop where
  arg : V (Proc.devRef .tc main_arg0) = X
  rows : V (Proc.devRef .tc main_v1) = rep X
  taken : V (Proc.devRef .tc main_v15) = fun j => FloatOps.uitofp .f32 (FloatOps.cmpf .olt (uniform (word j)) (chance (rep X j)))
  rem : V (Proc.devRef .tc main_v18) = fun i => rem4 (BitVec.ofNat 32 (i 0).val)

theorem key_shift : IntOp.shrui .host 42#32 32#32 = 0#32 := by decide
theorem key_mask : IntOp.andi 42#32 4294967295#32 = 42#32 := by decide

/-- The whole of the reference. -/
theorem main_line (d : Dev nD) : Line (F := F) (main d) (fun V => V (Proc.devRef .tc main_arg0) = X) (Left X) := by
  unfold main fn_bernoulli.body fn_uniform.body fn_remainder.body fn_where.body fn_where_0.body fn_where_1.body
  simp only [bind_assoc, pure_bind]
  apply Line.stretch (Q := Halves X)
  case run => iterate 18 apply Then.cons
              exact Then.nil
  case bufs => simp only [List.forall_cons, List.Forall, nullary_bufs_sub, unary_bufs_sub, binary_bufs_sub, ternary_bufs_sub, reshape_bufs_sub, and_self]
  case fresh =>
    simp only [List.forall_mem_cons, List.not_mem_nil, false_implies, implies_true, and_true]
    repeat' constructor
  case val =>
    intro V h
    refine { arg := ?_, rows := ?_, chances := ?_, low := ?_, high := ?_ }
    all_goals after_results_simp
    · exact h
    · rw [h]; rfl
    · rw [h]; rfl
    · funext j; exact key_shift
    · funext j; exact key_mask
  case rest =>
  apply Line.stretch (Q := Keyed X)
  case run => apply Then.cons
              exact Then.nil
  case bufs => simp only [List.forall_cons, List.Forall, nullary_bufs_sub, unary_bufs_sub, binary_bufs_sub, ternary_bufs_sub, reshape_bufs_sub, and_self]
  case fresh =>
    simp only [List.forall_mem_cons, List.not_mem_nil, false_implies, implies_true, and_true]
    repeat' constructor
  case val =>
    intro V h
    refine { arg := ?_, rows := ?_, chances := ?_, key := ?_ }
    all_goals after_results_simp
    · exact h.arg
    · exact h.rows
    · exact h.chances
    · rw [h.low, h.high]; rfl
  case rest =>
  apply Line.stretch (Q := Counted X 0#32 42#32 ctrHigh ctrLow)
  case run => repeat (first | with_reducible apply Then.cons | exact Then.nil)
  case bufs => simp only [List.forall_cons, List.Forall, nullary_bufs_sub, unary_bufs_sub, binary_bufs_sub, ternary_bufs_sub, reshape_bufs_sub, and_self]
  case fresh =>
    simp only [List.forall_mem_cons, List.not_mem_nil, false_implies, implies_true, and_true]
    repeat' constructor
  case val =>
    intro V h
    refine { arg := ?_, rows := ?_, chances := ?_, low := ?_, high := ?_, keyA := ?_, keyB := ?_, ctrX := ?_, ctrY := ?_ }
    all_goals after_results_simp
    · exact h.arg
    · exact h.rows
    · exact h.chances
    · rfl
    · rfl
    · rw [h.key]; exact key_low
    · rw [h.key]; exact key_high
    · rfl
    · rfl
  case rest =>
  refine (hash_line X 0#32 42#32 ctrHigh ctrLow).seq ?_
  apply Line.stretch (Q := Compared X)
  case run => iterate 19 apply Then.cons
              exact Then.nil
  case bufs => simp only [List.forall_cons, List.Forall, nullary_bufs_sub, unary_bufs_sub, binary_bufs_sub, ternary_bufs_sub, reshape_bufs_sub, and_self]
  case fresh =>
    simp only [List.forall_mem_cons, List.not_mem_nil, false_implies, implies_true, and_true]
    repeat' constructor
  case val =>
    intro V h
    refine { arg := by after_results_simp; exact h.arg, rows := by after_results_simp; exact h.rows, less := ?_ }
    after_results_simp
    simp only [h.chances, h.low, h.high, h.outX, h.outY]
    rfl
  case rest =>
  apply Line.stretch (Q := Placed X)
  case run => iterate 25 apply Then.cons
              exact Then.nil
  case bufs => simp only [List.forall_cons, List.Forall, nullary_bufs_sub, unary_bufs_sub, binary_bufs_sub, ternary_bufs_sub, reshape_bufs_sub, and_self]
  case fresh =>
    simp only [List.forall_mem_cons, List.not_mem_nil, false_implies, implies_true, and_true]
    repeat' constructor
  case val =>
    intro V h
    refine { arg := by after_results_simp; exact h.arg, rows := by after_results_simp; exact h.rows, taken := ?_, rem := ?_ }
    all_goals after_results_simp
    · rw [h.less]; rfl
    · rfl
  case rest =>
  apply Line.ops
  case run => repeat (first | exact Then.last | exact Then.nil | apply Then.cons)
  case bufs => simp only [List.forall_cons, List.Forall, nullary_bufs_sub, unary_bufs_sub, binary_bufs_sub, ternary_bufs_sub, reshape_bufs_sub, and_self]
  case fresh =>
    simp only [List.forall_mem_cons, List.not_mem_nil, false_implies, implies_true, and_true]
    repeat' constructor
  case val =>
    intro V h
    refine { arg := by after_results_simp; exact h.arg, rows := by after_results_simp; exact h.rows, out := ?_ }
    after_results_simp
    simp only [h.rows, h.taken, h.rem]
    rfl

/-- The reference's run: both results, its argument, and every semaphore counter at zero, for it has none. -/
theorem run (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v1) = rep (m ((c.tc : Thread nD τ).loc main_arg0))
        ∧ r.2.mem ((c.tc : Thread nD τ).loc main_v24) = masked (m ((c.tc : Thread nD τ).loc main_arg0))
        ∧ r.2.mem ((c.tc : Thread nD τ).loc main_arg0) = m ((c.tc : Thread nD τ).loc main_arg0))
      ∧ r.2.sem = fun _ => 0) := by
  have line := fun d : Dev nD => main_line (m ((d.tc : Thread nD τ).loc main_arg0)) d
  refine θ_run_mono (run_seq (by decide) (by decide) defs main (fun d => (line d).choose) (fun d => (line d).choose_spec.1)
    (fun d => (line d).choose_spec.2.1) m ρ (fun d => (line d).choose_spec.2.2.1)) ?_
  intro r hr
  refine ⟨fun c => ?_, sem_eq_zero_of_no_sems (by decide) r.2⟩
  · have h := (line c).choose_spec.2.2.2 (launchContents m c) rfl
    exact ⟨(hr c _).trans h.rows, (hr c _).trans h.out, (hr c _).trans h.arg⟩

end Cert.ReferenceIdeal.Hand

end
-- ==== Proof.Chance.lean ====
/-
  The reference's draw over the reals: an element is drawn exactly when its random word is below 644245504, its row's number is
  not a multiple of 4 and it is not -1 already.
-/
module

public import proofs.«01_k».proof.Proof.RefRun
public import Idealize.ShloMosaic.Lib.IdealHost

@[expose] public section

noncomputable section

namespace Cert.ReferenceIdeal.Hand

open Idealize.ShloMosaic

/-- A word's top 23 bits under the exponent of one. -/
theorem mantissa_toNat (w : BitVec 32) : (IntOp.ori (IntOp.shrui .host w 9#32) 1065353216#32).toNat = w.toNat / 512 + 1065353216 := by
  have hs : IntOp.shrui .host w 9#32 = w >>> 9 := rfl
  have hd : (w >>> 9) &&& 1065353216#32 = 0#32 := by
    apply BitVec.eq_of_getLsbD_eq
    intro k hk
    by_cases h : k < 23
    · have : (1065353216#32).getLsbD k = false := by
        revert h; revert k; decide
      simp [this]
    · have : w.getLsbD (9 + k) = false := BitVec.getLsbD_of_ge _ _ (by omega)
      simp [this]
  rw [hs, IntOp.ori, ← BitVec.add_eq_or_of_and_eq_zero _ _ hd, BitVec.toNat_add, BitVec.toNat_ushiftRight, Nat.shiftRight_eq_div_pow]
  have := w.isLt
  simp only [BitVec.toNat_ofNat]
  omega

/-- The number those bits stand for. -/
theorem mantissa_value (w : BitVec 32) :
    Ideal.ofBits .f32 (IntOp.ori (IntOp.shrui .host w 9#32) 1065353216#32) = ((1 + (w.toNat / 512 : ℕ) / 8388608 : ℝ) : EReal) := by
  have h := mantissa_toNat w
  generalize IntOp.ori (IntOp.shrui .host w 9#32) 1065353216#32 = b at h
  have hw := w.isLt
  have h1 : (b.extractLsb' 31 1 == 1#1) = false := by
    rw [beq_eq_false_iff_ne, ne_eq, ← BitVec.toNat_inj, BitVec.extractLsb'_toNat, Nat.shiftRight_eq_div_pow, h]
    simp only [BitVec.toNat_ofNat]
    omega
  have h2 : (b.extractLsb' 23 8).toNat = 127 := by
    rw [BitVec.extractLsb'_toNat, Nat.shiftRight_eq_div_pow, h]; omega
  have h3 : (b.extractLsb' 0 23).toNat = w.toNat / 512 := by
    rw [BitVec.extractLsb'_toNat, Nat.shiftRight_eq_div_pow, h]; omega
  unfold Ideal.ofBits Ideal.ieee
  simp only [h1, h2, h3, Nat.reduceAdd]
  rw [if_neg (by decide), if_neg (by decide)]
  congr 1
  push_cast
  norm_num
  ring

/-- The uniform number of a word. -/
theorem uniform_eq (w : BitVec 32) : uniform (F := Ideal) w = (((w.toNat / 512 : ℕ) / 8388608 : ℝ) : EReal) := by
  have h0 : (0 : ℝ) ≤ ((w.toNat / 512 : ℕ) / 8388608 : ℝ) := by positivity
  unfold uniform
  simp only [Ideal.ofBits_def, Ideal.maximumf_def, Ideal.addf_def, Ideal.mulf_def, Ideal.subf_def, mantissa_value, Ideal.ofBits_one_f32, Ideal.ofBits_zero_f32]
  rw [sub_zero, mul_one, add_zero, ← EReal.coe_one, ← EReal.coe_sub, max_eq_right (by rw [← EReal.coe_zero]; exact EReal.coe_le_coe_iff.mpr (by linarith))]
  congr 1
  ring

/-- The probability 0.15 as an f32 number. -/
theorem fifteen : Ideal.ofBits .f32 0x3E19999A#32 = ((10066330 / 67108864 : ℝ) : EReal) := by
  simp [Ideal.ofBits, Ideal.ieee, -EReal.coe_mul]; norm_num

/-- The bits of -1. -/
theorem minus_one : Ideal.ofBits .f32 0xBF800000#32 = ((-1 : ℝ) : EReal) := by
  simp [Ideal.ofBits, Ideal.ieee, -EReal.coe_mul, -EReal.coe_neg]; norm_num

/-- The uniform number is under 0.15 exactly when the word is under 644245504. -/
theorem below (w : BitVec 32) : ((((w.toNat / 512 : ℕ) / 8388608 : ℝ) : EReal) < ((10066330 / 67108864 : ℝ) : EReal)) ↔ w.toNat < 644245504 := by
  rw [EReal.coe_lt_coe_iff, div_lt_div_iff₀ (by norm_num) (by norm_num)]
  constructor
  · intro h
    have : (w.toNat / 512) * 67108864 < 10066330 * 8388608 := by exact_mod_cast h
    omega
  · intro h
    have : (w.toNat / 512) * 67108864 < 10066330 * 8388608 := by omega
    exact_mod_cast this

/-- A row's number modulo 4. -/
theorem rem4_eq (n : ℕ) (h : n < 65536) : rem4 (BitVec.ofNat 32 n) = BitVec.ofNat 32 (n % 4) := by
  have hm : IntOp.remsi .host (BitVec.ofNat 32 n) 4#32 = BitVec.ofNat 32 (n % 4) := by
    have hc : ¬ IntOp.SDivCorner (BitVec.ofNat 32 n) 4#32 := by
      rintro (h | ⟨_, h⟩) <;> revert h <;> decide
    rw [IntOp.remsi, if_neg hc]
    apply BitVec.eq_of_toInt_eq
    rw [BitVec.toInt_srem]
    have e : ∀ k : ℕ, k < 65536 → (BitVec.ofNat 32 k).toInt = k := fun k hk => by
      rw [BitVec.toInt_eq_toNat_of_lt (by rw [BitVec.toNat_ofNat]; omega), BitVec.toNat_ofNat, Nat.mod_eq_of_lt (by omega)]
    rw [e n h, e (n % 4) (by omega), show (4#32).toInt = 4 from by decide, Int.tmod_eq_emod_of_nonneg (by omega)]
    omega
  have hsel : Scalar.select (IntOp.cmpi .eq 4#32 0#32) 1#32 4#32 = 4#32 := by decide
  unfold rem4
  rw [hsel, hm]
  have : n % 4 = 0 ∨ n % 4 = 1 ∨ n % 4 = 2 ∨ n % 4 = 3 := by omega
  rcases this with h | h | h | h <;> rw [h] <;> decide

/-- What an element becomes: -1 in a row whose number is not a multiple of 4, if its word is under the bound. -/
theorem draw (n : ℕ) (h : n < 65536) (w : BitVec 32) (x : Ideal .f32) :
    Scalar.select (FloatOps.cmpf .oeq (drawn (BitVec.ofNat 32 n) w x) (FloatOps.ofBits .f32 0x3F800000#32)) (FloatOps.ofBits .f32 0xBF800000#32) x
      = if n % 4 = 0 then x else Scalar.select (IntOp.cmpi .ult w 644245504#32) (FloatOps.ofBits .f32 0xBF800000#32) x := by
  unfold drawn
  rw [rem4_eq n h, uniform_eq]
  by_cases hn : n % 4 = 0
  · rw [hn, if_pos rfl, show IntOp.cmpi .eq (BitVec.ofNat 32 0) 0#32 = 1 from by decide]
    simp [Scalar.select, FloatOps.cmpf, Ideal.cmp]
  · rw [if_neg hn]
    have hr : IntOp.cmpi .eq (BitVec.ofNat 32 (n % 4)) 0#32 = 0 := by
      have : n % 4 = 1 ∨ n % 4 = 2 ∨ n % 4 = 3 := by omega
      rcases this with h | h | h <;> rw [h] <;> decide
    rw [hr]
    unfold chance
    by_cases hx : x = Ideal.ofBits .f32 0xBF800000#32
    · simp [Scalar.select, ← hx]
    · have hb := below w
      by_cases hw : w.toNat < 644245504
      · have hw' := hb.mpr hw
        simp [Scalar.select, FloatOps.cmpf, FloatOps.uitofp, Ideal.cmp, IntOp.cmpi, hx, fifteen, hw, hw', BitVec.ult]
      · have hw' := (not_congr hb).mpr hw
        simp [Scalar.select, FloatOps.cmpf, FloatOps.uitofp, Ideal.cmp, IntOp.cmpi, hx, fifteen, hw, hw', BitVec.ult]

end Cert.ReferenceIdeal.Hand

end
-- ==== Proof.Match.lean ====
/-
  The kernel's results are the reference's: both hash an element's place in the array and mask it under the same condition.
-/
module

public import proofs.«01_k».proof.Proof.Lanes
public import proofs.«01_k».proof.Proof.Chance

@[expose] public section

set_option maxRecDepth 16384

noncomputable section

namespace Cert.Match

open Cert.KernelIdeal Cert.KernelIdeal.Hand
open Cert.ReferenceIdeal.Hand
open Cert.Hash
open Idealize.ShloMosaic

variable {F : FTy → Type} [FloatOps F]

/-- Row `r` of the reference's first result is row `r / 4` of the argument, as the kernel's is. -/
theorem rep_at (X : FVec F S16384x128 .f32) (j : S65536x128.Idx) : rep X j = blockAt X ((j 0).val / 8192) (inBlock j) := by
  have h0 : (j 0).val < 65536 := (j 0).isLt
  refine (shapeCast_apply _ _ j (ix3 (⟨(j 0).val / 4, by omega⟩ : Fin 16384) (⟨(j 0).val % 4, by omega⟩ : Fin 4) (j 1)) ?_).trans ?_
  · rw [Shape.rowMajor_val_three, Shape.rowMajor_val_two]
    show ((j 0).val / 4 * 4 + (j 0).val % 4) * 128 + (j 1).val = (j 0).val * 128 + (j 1).val
    omega
  · refine congrArg X (funext fun a => match a with | 0 => Fin.ext ?_ | 1 => rfl)
    show (j 0).val / 4 = (2048 * ((j 0).val / 8192) + (j 0).val / 4 % 2048) % 16384
    omega

/-- The first results are equal. -/
theorem result0_eq (X : FVec F S16384x128 .f32) : result0 X = rep X := funext fun j => (rep_at X j).symm

/-- The reference's counter is the element's place in the array. -/
theorem counter_toNat (j : S65536x128.Idx) : (counter j).toNat = 128 * (j 0).val + (j 1).val := by
  have h0 : (j 0).val < 65536 := (j 0).isLt
  have h1 : (j 1).val < 128 := (j 1).isLt
  rw [counter, BitVec.toNat_add, BitVec.toNat_mul, BitVec.toNat_mul]
  simp only [BitVec.toNat_ofNat]
  omega

/-- Its high word is zero. -/
theorem ctrHigh_eq (j : S65536x128.Idx) : ctrHigh j = 0#32 := by
  have h0 : (j 0).val < 65536 := (j 0).isLt
  have h1 : (j 1).val < 128 := (j 1).isLt
  have hs : IntOp.shrui .host (counter j) 32#64 = counter j >>> 32 := rfl
  apply BitVec.eq_of_toNat_eq
  rw [ctrHigh, hs, BitVec.toNat_setWidth, BitVec.toNat_ushiftRight, counter_toNat, Nat.shiftRight_eq_div_pow]
  simp only [BitVec.toNat_ofNat]
  omega

/-- Row `g` of block `p`, at its column `k` among 512 words: no word wraps. -/
theorem place_toNat (p g k n : ℕ) (hp : p < 8) (hg : g < 2048) (hn : k + n < 512) :
    (BitVec.ofNat 32 p * 1048576#32 + BitVec.ofNat 32 g <<< (9 : ℕ) + BitVec.ofNat 32 k + BitVec.ofNat 32 n).toNat = 1048576 * p + 512 * g + k + n := by
  have e1 : (BitVec.ofNat 32 p * 1048576#32).toNat = 1048576 * p := by
    rw [BitVec.toNat_mul, BitVec.toNat_ofNat, BitVec.toNat_ofNat]; omega
  have e2 : (BitVec.ofNat 32 g <<< (9 : ℕ)).toNat = 512 * g := by
    rw [BitVec.toNat_shiftLeft, BitVec.toNat_ofNat, Nat.shiftLeft_eq]; omega
  rw [BitVec.toNat_add, BitVec.toNat_add, BitVec.toNat_add, e1, e2, BitVec.toNat_ofNat, BitVec.toNat_ofNat]
  omega

/-- A grid point's coordinate is its number. -/
theorem pointAt_val (p : ℕ) (hp : p < 8) : (pointAt p 0).val = p := by
  refine (Pipeline.Grid.coords_val (G := grid0) _ 0 (S := 1) (B := 8) (by decide) rfl).trans ?_
  show p % 8 / 1 % 8 = p
  omega

/-- The kernel's counter of copy `m` of a row is the reference's low word. -/
theorem place_at (j : S65536x128.Idx) (m : ℕ) (hm : (j 0).val % 4 = m) :
    place (pointAt ((j 0).val / 8192)) (inBlock j) + BitVec.ofNat 32 (128 * m) = ctrLow j := by
  have h0 : (j 0).val < 65536 := (j 0).isLt
  have h1 : (j 1).val < 128 := (j 1).isLt
  apply BitVec.eq_of_toNat_eq
  rw [ctrLow, BitVec.toNat_setWidth, counter_toNat, place, pointAt_val _ (by omega)]
  refine (place_toNat ((j 0).val / 8192) ((j 0).val / 4 % 2048) (j 1).val (128 * m) (by omega) (by omega) (by omega)).trans ?_
  omega

/-- A copy's masked element, by the reference's random word. -/
theorem mask_at (j : S65536x128.Idx) (m : ℕ) (hm : (j 0).val % 4 = m) (k : BitVec 32) (hk : BitVec.ofNat 32 (128 * m) = k) (x : F .f32) :
    maskAt (place (pointAt ((j 0).val / 8192)) (inBlock j) + k + 42#32) x
      = Scalar.select (IntOp.cmpi .ult (word j) 644245504#32) (FloatOps.ofBits .f32 0xBF800000#32) x := by
  rw [← hk, place_at j m hm, maskAt, folded_eq, word, ctrHigh_eq]

/-- The first 128 lanes. -/
theorem lane_zero (i : grid0.Coords) (v : Vec F S2048x128 .f32) : lane 0 i v = lane0 i v := rfl
/-- The second 128 lanes. -/
theorem lane_one (i : grid0.Coords) (v : Vec F S2048x128 .f32) : lane 1 i v = lane1 i v := rfl
/-- The third 128 lanes. -/
theorem lane_two (i : grid0.Coords) (v : Vec F S2048x128 .f32) : lane 2 i v = lane2 i v := rfl

/-- What the kernel makes of an element of copy `m` of a row. -/
theorem lane_at (j : S65536x128.Idx) (hm : (j 0).val % 4 ≠ 0) (v : Vec F S2048x128 .f32) :
    lane ((j 0).val % 4 - 1) (pointAt ((j 0).val / 8192)) v (lead (inBlock j))
      = Scalar.select (IntOp.cmpi .ult (word j) 644245504#32) (FloatOps.ofBits .f32 0xBF800000#32) (v (inBlock j)) := by
  have : (j 0).val % 4 = 1 ∨ (j 0).val % 4 = 2 ∨ (j 0).val % 4 = 3 := by omega
  rcases this with h | h | h <;> rw [h]
  · rw [show 1 - 1 = 0 from rfl, lane_zero, lane0_at]
    exact mask_at j 1 h 128#32 rfl _
  · rw [show 2 - 1 = 1 from rfl, lane_one, lane1_at]
    exact mask_at j 2 h 256#32 rfl _
  · rw [show 3 - 1 = 2 from rfl, lane_two, lane2_at]
    exact mask_at j 3 h 384#32 rfl _

/-- The second results are equal over the reals. -/
theorem result1_eq (X : FVec Ideal S16384x128 .f32) : result1 X = masked X := by
  funext j
  refine Eq.trans ?_ (draw (j 0).val (j 0).isLt (word j) (rep X j)).symm
  rw [rep_at, result1]
  split
  · rfl
  · next h => exact lane_at j h _

end Cert.Match

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Twin
public import proofs.«01_k».proof.Proof.Match
public import Idealize.ShloMosaic.Adequacy
public import Idealize.ShloMosaic.Init

@[expose] public section

noncomputable section

namespace Cert.Proof

open Idealize.ShloMosaic Idealize.SL.Sem

/-- Both programs leave each row of the argument four times, and the same masked, from arguments that agree. -/
theorem equal : Cert.algebraic_KernelIdeal_ReferenceIdeal (hKernelIdeal := Cert.KernelIdeal.Gen.facts) (hReferenceIdeal := Cert.ReferenceIdeal.Gen.facts) := by
  intro m g m' g' _ hm
  exists fun c => Cert.KernelIdeal.Hand.result0 (F := Ideal) (m ((c.tc : Thread Cert.KernelIdeal.nD Cert.KernelIdeal.τ).loc Cert.KernelIdeal.main_arg0))
  exists fun c => Cert.KernelIdeal.Hand.result1 (F := Ideal) (m ((c.tc : Thread Cert.KernelIdeal.nD Cert.KernelIdeal.τ).loc Cert.KernelIdeal.main_arg0))
  refine ⟨(θ_run _ _ _).mono (fun _ h c => h.1 c) (Cert.KernelIdeal.Hand.run m g), (θ_run _ _ _).mono (fun _ h c => ?_) (Cert.ReferenceIdeal.Hand.run m' g')⟩
  obtain ⟨h0, h1, h2⟩ := h.1 c
  rw [hm c] at h0 h1
  exact ⟨h0.trans (Cert.Match.result0_eq _).symm, h1.trans (Cert.Match.result1_eq _).symm, h2⟩

theorem claim : Cert.Claim := ⟨Cert.Kernel.Gen.facts, Cert.KernelIdeal.Gen.facts, Cert.ReferenceIdeal.Gen.facts,
  fun m g _ => Cert.Kernel.Hand.quiet m g,
  fun m g _ => (θ_run _ _ _).mono (fun _ h => ⟨fun c => (h.1 c).2.2, h.2⟩) (Cert.KernelIdeal.Hand.run m g),
  fun m g _ => (θ_run _ _ _).mono (fun _ h => ⟨fun c => (h.1 c).2.2, h.2⟩) (Cert.ReferenceIdeal.Hand.run m g),
  trivial, equal⟩

end Cert.Proof

end
